-- ==== Defs.lean ====
def Pre_FwdDx (m : (ℓ : Loc Cert.FwdDx.nD Cert.FwdDx.τ Cert.FwdDx.sig) → Buf (Elt Bits) ℓ) : Prop :=
  True

def Pre_FwdDxIdeal (m : (ℓ : Loc Cert.FwdDxIdeal.nD Cert.FwdDxIdeal.τ Cert.FwdDxIdeal.sig) → Buf (Elt Ideal) ℓ) : Prop :=
  True

def Pre_RefFwdDxIdeal (m : (ℓ : Loc Cert.RefFwdDxIdeal.nD Cert.RefFwdDxIdeal.τ Cert.RefFwdDxIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_RefDwIdeal (m : (ℓ : Loc Cert.RefDwIdeal.nD Cert.RefDwIdeal.τ Cert.RefDwIdeal.sig) → Buf (Elt Ideal) ℓ) : Prop :=
  True

def Pre_QuantiseW (m : (ℓ : Loc Cert.QuantiseW.nD Cert.QuantiseW.τ Cert.QuantiseW.sig) → Buf (Elt Bits) ℓ) : Prop :=
  True

def Pre_QuantiseWIdeal (m : (ℓ : Loc Cert.QuantiseWIdeal.nD Cert.QuantiseWIdeal.τ Cert.QuantiseWIdeal.sig) → Buf (Elt Ideal) ℓ) : Prop :=
  True

def Pre_RefQuantiseWIdeal (m : (ℓ : Loc Cert.RefQuantiseWIdeal.nD Cert.RefQuantiseWIdeal.τ Cert.RefQuantiseWIdeal.sig) → Buf (Elt Ideal) ℓ) : Prop :=
  True

def quiescent_FwdDx [hFwdDx : Cert.FwdDx.Facts] : Prop :=
  ∀ (m : (ℓ : Loc Cert.FwdDx.nD Cert.FwdDx.τ Cert.FwdDx.sig) → Buf (Elt Bits) ℓ) (g : Dev Cert.FwdDx.nD → PrngReg), Pre_FwdDx m →
    θ_run (Cert.FwdDx.defs (F := Bits)) (onTc (τ := Cert.FwdDx.τ) (Cert.FwdDx.main (F := Bits))) ⟨m, fun _ => 0, g⟩ (fun r => (∀ c : Dev Cert.FwdDx.nD,
      r.2.mem ((c.tc : Thread Cert.FwdDx.nD Cert.FwdDx.τ).loc Cert.FwdDx.main_arg0) = m ((c.tc : Thread Cert.FwdDx.nD Cert.FwdDx.τ).loc Cert.FwdDx.main_arg0)
      ∧ r.2.mem ((c.tc : Thread Cert.FwdDx.nD Cert.FwdDx.τ).loc Cert.FwdDx.main_arg1) = m ((c.tc : Thread Cert.FwdDx.nD Cert.FwdDx.τ).loc Cert.FwdDx.main_arg1)
      ∧ r.2.mem ((c.tc : Thread Cert.FwdDx.nD Cert.FwdDx.τ).loc Cert.FwdDx.main_arg2) = m ((c.tc : Thread Cert.FwdDx.nD Cert.FwdDx.τ).loc Cert.FwdDx.main_arg2)
      ∧ r.2.mem ((c.tc : Thread Cert.FwdDx.nD Cert.FwdDx.τ).loc Cert.FwdDx.main_arg3) = m ((c.tc : Thread Cert.FwdDx.nD Cert.FwdDx.τ).loc Cert.FwdDx.main_arg3)
      ∧ r.2.mem ((c.tc : Thread Cert.FwdDx.nD Cert.FwdDx.τ).loc Cert.FwdDx.main_arg4) = m ((c.tc : Thread Cert.FwdDx.nD Cert.FwdDx.τ).loc Cert.FwdDx.main_arg4)
      ∧ r.2.mem ((c.tc : Thread Cert.FwdDx.nD Cert.FwdDx.τ).loc Cert.FwdDx.main_arg5) = m ((c.tc : Thread Cert.FwdDx.nD Cert.FwdDx.τ).loc Cert.FwdDx.main_arg5))
      ∧ r.2.sem = fun _ => 0)

def quiescent_FwdDxIdeal [hFwdDxIdeal : Cert.FwdDxIdeal.Facts] : Prop :=
  ∀ (m : (ℓ : Loc Cert.FwdDxIdeal.nD Cert.FwdDxIdeal.τ Cert.FwdDxIdeal.sig) → Buf (Elt Ideal) ℓ) (g : Dev Cert.FwdDxIdeal.nD → PrngReg), Pre_FwdDxIdeal m →
    θ_run (Cert.FwdDxIdeal.defs (F := Ideal)) (onTc (τ := Cert.FwdDxIdeal.τ) (Cert.FwdDxIdeal.main (F := Ideal))) ⟨m, fun _ => 0, g⟩ (fun r => (∀ c : Dev Cert.FwdDxIdeal.nD,
      r.2.mem ((c.tc : Thread Cert.FwdDxIdeal.nD Cert.FwdDxIdeal.τ).loc Cert.FwdDxIdeal.main_arg0) = m ((c.tc : Thread Cert.FwdDxIdeal.nD Cert.FwdDxIdeal.τ).loc Cert.FwdDxIdeal.main_arg0)
      ∧ r.2.mem ((c.tc : Thread Cert.FwdDxIdeal.nD Cert.FwdDxIdeal.τ).loc Cert.FwdDxIdeal.main_arg1) = m ((c.tc : Thread Cert.FwdDxIdeal.nD Cert.FwdDxIdeal.τ).loc Cert.FwdDxIdeal.main_arg1)
      ∧ r.2.mem ((c.tc : Thread Cert.FwdDxIdeal.nD Cert.FwdDxIdeal.τ).loc Cert.FwdDxIdeal.main_arg2) = m ((c.tc : Thread Cert.FwdDxIdeal.nD Cert.FwdDxIdeal.τ).loc Cert.FwdDxIdeal.main_arg2)
      ∧ r.2.mem ((c.tc : Thread Cert.FwdDxIdeal.nD Cert.FwdDxIdeal.τ).loc Cert.FwdDxIdeal.main_arg3) = m ((c.tc : Thread Cert.FwdDxIdeal.nD Cert.FwdDxIdeal.τ).loc Cert.FwdDxIdeal.main_arg3)
      ∧ r.2.mem ((c.tc : Thread Cert.FwdDxIdeal.nD Cert.FwdDxIdeal.τ).loc Cert.FwdDxIdeal.main_arg4) = m ((c.tc : Thread Cert.FwdDxIdeal.nD Cert.FwdDxIdeal.τ).loc Cert.FwdDxIdeal.main_arg4)
      ∧ r.2.mem ((c.tc : Thread Cert.FwdDxIdeal.nD Cert.FwdDxIdeal.τ).loc Cert.FwdDxIdeal.main_arg5) = m ((c.tc : Thread Cert.FwdDxIdeal.nD Cert.FwdDxIdeal.τ).loc Cert.FwdDxIdeal.main_arg5))
      ∧ r.2.sem = fun _ => 0)

def quiescent_RefFwdDxIdeal [hRefFwdDxIdeal : Cert.RefFwdDxIdeal.Facts] : Prop :=
  ∀ (m : (ℓ : Loc Cert.RefFwdDxIdeal.nD Cert.RefFwdDxIdeal.τ Cert.RefFwdDxIdeal.sig) → Buf (Elt Ideal) ℓ) (g : Dev Cert.RefFwdDxIdeal.nD → PrngReg), Pre_RefFwdDxIdeal m →
    θ_run (Cert.RefFwdDxIdeal.defs (F := Ideal)) (onTc (τ := Cert.RefFwdDxIdeal.τ) (Cert.RefFwdDxIdeal.main (F := Ideal))) ⟨m, fun _ => 0, g⟩ (fun r => (∀ c : Dev Cert.RefFwdDxIdeal.nD,
      r.2.mem ((c.tc : Thread Cert.RefFwdDxIdeal.nD Cert.RefFwdDxIdeal.τ).loc Cert.RefFwdDxIdeal.main_arg0) = m ((c.tc : Thread Cert.RefFwdDxIdeal.nD Cert.RefFwdDxIdeal.τ).loc Cert.RefFwdDxIdeal.main_arg0)
      ∧ r.2.mem ((c.tc : Thread Cert.RefFwdDxIdeal.nD Cert.RefFwdDxIdeal.τ).loc Cert.RefFwdDxIdeal.main_arg1) = m ((c.tc : Thread Cert.RefFwdDxIdeal.nD Cert.RefFwdDxIdeal.τ).loc Cert.RefFwdDxIdeal.main_arg1)
      ∧ r.2.mem ((c.tc : Thread Cert.RefFwdDxIdeal.nD Cert.RefFwdDxIdeal.τ).loc Cert.RefFwdDxIdeal.main_arg2) = m ((c.tc : Thread Cert.RefFwdDxIdeal.nD Cert.RefFwdDxIdeal.τ).loc Cert.RefFwdDxIdeal.main_arg2)
      ∧ r.2.mem ((c.tc : Thread Cert.RefFwdDxIdeal.nD Cert.RefFwdDxIdeal.τ).loc Cert.RefFwdDxIdeal.main_arg3) = m ((c.tc : Thread Cert.RefFwdDxIdeal.nD Cert.RefFwdDxIdeal.τ).loc Cert.RefFwdDxIdeal.main_arg3)
      ∧ r.2.mem ((c.tc : Thread Cert.RefFwdDxIdeal.nD Cert.RefFwdDxIdeal.τ).loc Cert.RefFwdDxIdeal.main_arg4) = m ((c.tc : Thread Cert.RefFwdDxIdeal.nD Cert.RefFwdDxIdeal.τ).loc Cert.RefFwdDxIdeal.main_arg4)
      ∧ r.2.mem ((c.tc : Thread Cert.RefFwdDxIdeal.nD Cert.RefFwdDxIdeal.τ).loc Cert.RefFwdDxIdeal.main_arg5) = m ((c.tc : Thread Cert.RefFwdDxIdeal.nD Cert.RefFwdDxIdeal.τ).loc Cert.RefFwdDxIdeal.main_arg5))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_RefDwIdeal [hRefDwIdeal : Cert.RefDwIdeal.Facts] : Prop :=
  ∀ (m : (ℓ : Loc Cert.RefDwIdeal.nD Cert.RefDwIdeal.τ Cert.RefDwIdeal.sig) → Buf (Elt Ideal) ℓ) (g : Dev Cert.RefDwIdeal.nD → PrngReg), Pre_RefDwIdeal m →
    θ_run (Cert.RefDwIdeal.defs (F := Ideal)) (onTc (τ := Cert.RefDwIdeal.τ) (Cert.RefDwIdeal.main (F := Ideal))) ⟨m, fun _ => 0, g⟩ (fun r => (∀ c : Dev Cert.RefDwIdeal.nD,
      r.2.mem ((c.tc : Thread Cert.RefDwIdeal.nD Cert.RefDwIdeal.τ).loc Cert.RefDwIdeal.main_arg0) = m ((c.tc : Thread Cert.RefDwIdeal.nD Cert.RefDwIdeal.τ).loc Cert.RefDwIdeal.main_arg0)
      ∧ r.2.mem ((c.tc : Thread Cert.RefDwIdeal.nD Cert.RefDwIdeal.τ).loc Cert.RefDwIdeal.main_arg1) = m ((c.tc : Thread Cert.RefDwIdeal.nD Cert.RefDwIdeal.τ).loc Cert.RefDwIdeal.main_arg1)
      ∧ r.2.mem ((c.tc : Thread Cert.RefDwIdeal.nD Cert.RefDwIdeal.τ).loc Cert.RefDwIdeal.main_arg2) = m ((c.tc : Thread Cert.RefDwIdeal.nD Cert.RefDwIdeal.τ).loc Cert.RefDwIdeal.main_arg2)
      ∧ r.2.mem ((c.tc : Thread Cert.RefDwIdeal.nD Cert.RefDwIdeal.τ).loc Cert.RefDwIdeal.main_arg3) = m ((c.tc : Thread Cert.RefDwIdeal.nD Cert.RefDwIdeal.τ).loc Cert.RefDwIdeal.main_arg3))
      ∧ r.2.sem = fun _ => 0)

def quiescent_QuantiseW [hQuantiseW : Cert.QuantiseW.Facts] : Prop :=
  ∀ (m : (ℓ : Loc Cert.QuantiseW.nD Cert.QuantiseW.τ Cert.QuantiseW.sig) → Buf (Elt Bits) ℓ) (g : Dev Cert.QuantiseW.nD → PrngReg), Pre_QuantiseW m →
    θ_run (Cert.QuantiseW.defs (F := Bits)) (onTc (τ := Cert.QuantiseW.τ) (Cert.QuantiseW.main (F := Bits))) ⟨m, fun _ => 0, g⟩ (fun r => (∀ c : Dev Cert.QuantiseW.nD,
      r.2.mem ((c.tc : Thread Cert.QuantiseW.nD Cert.QuantiseW.τ).loc Cert.QuantiseW.main_arg0) = m ((c.tc : Thread Cert.QuantiseW.nD Cert.QuantiseW.τ).loc Cert.QuantiseW.main_arg0)
      ∧ r.2.mem ((c.tc : Thread Cert.QuantiseW.nD Cert.QuantiseW.τ).loc Cert.QuantiseW.main_arg1) = m ((c.tc : Thread Cert.QuantiseW.nD Cert.QuantiseW.τ).loc Cert.QuantiseW.main_arg1))
      ∧ r.2.sem = fun _ => 0)

def quiescent_QuantiseWIdeal [hQuantiseWIdeal : Cert.QuantiseWIdeal.Facts] : Prop :=
  ∀ (m : (ℓ : Loc Cert.QuantiseWIdeal.nD Cert.QuantiseWIdeal.τ Cert.QuantiseWIdeal.sig) → Buf (Elt Ideal) ℓ) (g : Dev Cert.QuantiseWIdeal.nD → PrngReg), Pre_QuantiseWIdeal m →
    θ_run (Cert.QuantiseWIdeal.defs (F := Ideal)) (onTc (τ := Cert.QuantiseWIdeal.τ) (Cert.QuantiseWIdeal.main (F := Ideal))) ⟨m, fun _ => 0, g⟩ (fun r => (∀ c : Dev Cert.QuantiseWIdeal.nD,
      r.2.mem ((c.tc : Thread Cert.QuantiseWIdeal.nD Cert.QuantiseWIdeal.τ).loc Cert.QuantiseWIdeal.main_arg0) = m ((c.tc : Thread Cert.QuantiseWIdeal.nD Cert.QuantiseWIdeal.τ).loc Cert.QuantiseWIdeal.main_arg0)
      ∧ r.2.mem ((c.tc : Thread Cert.QuantiseWIdeal.nD Cert.QuantiseWIdeal.τ).loc Cert.QuantiseWIdeal.main_arg1) = m ((c.tc : Thread Cert.QuantiseWIdeal.nD Cert.QuantiseWIdeal.τ).loc Cert.QuantiseWIdeal.main_arg1))
      ∧ r.2.sem = fun _ => 0)

def quiescent_RefQuantiseWIdeal [hRefQuantiseWIdeal : Cert.RefQuantiseWIdeal.Facts] : Prop :=
  ∀ (m : (ℓ : Loc Cert.RefQuantiseWIdeal.nD Cert.RefQuantiseWIdeal.τ Cert.RefQuantiseWIdeal.sig) → Buf (Elt Ideal) ℓ) (g : Dev Cert.RefQuantiseWIdeal.nD → PrngReg), Pre_RefQuantiseWIdeal m →
    θ_run (Cert.RefQuantiseWIdeal.defs (F := Ideal)) (onTc (τ := Cert.RefQuantiseWIdeal.τ) (Cert.RefQuantiseWIdeal.main (F := Ideal))) ⟨m, fun _ => 0, g⟩ (fun r => (∀ c : Dev Cert.RefQuantiseWIdeal.nD,
      r.2.mem ((c.tc : Thread Cert.RefQuantiseWIdeal.nD Cert.RefQuantiseWIdeal.τ).loc Cert.RefQuantiseWIdeal.main_arg0) = m ((c.tc : Thread Cert.RefQuantiseWIdeal.nD Cert.RefQuantiseWIdeal.τ).loc Cert.RefQuantiseWIdeal.main_arg0)
      ∧ r.2.mem ((c.tc : Thread Cert.RefQuantiseWIdeal.nD Cert.RefQuantiseWIdeal.τ).loc Cert.RefQuantiseWIdeal.main_arg1) = m ((c.tc : Thread Cert.RefQuantiseWIdeal.nD Cert.RefQuantiseWIdeal.τ).loc Cert.RefQuantiseWIdeal.main_arg1))
      ∧ r.2.sem = fun _ => 0)

def preserves_FwdDx_FwdDxIdeal : Prop :=
  True

def algebraic_FwdDxIdeal_RefFwdDxIdeal [hFwdDxIdeal : Cert.FwdDxIdeal.Facts] [hRefFwdDxIdeal : Cert.RefFwdDxIdeal.Facts] : Prop :=
  ∀ (m : (ℓ : Loc Cert.FwdDxIdeal.nD Cert.FwdDxIdeal.τ Cert.FwdDxIdeal.sig) → Buf (Elt Ideal) ℓ) (g : Dev Cert.FwdDxIdeal.nD → PrngReg)
    (m' : (ℓ : Loc Cert.RefFwdDxIdeal.nD Cert.RefFwdDxIdeal.τ Cert.RefFwdDxIdeal.sig) → Buf (Elt Ideal) ℓ) (g' : Dev Cert.RefFwdDxIdeal.nD → PrngReg), Pre_FwdDxIdeal m →
    (∀ c : Dev Cert.FwdDxIdeal.nD,
      m' ((c.tc : Thread Cert.RefFwdDxIdeal.nD Cert.RefFwdDxIdeal.τ).loc Cert.RefFwdDxIdeal.main_arg0) = m ((c.tc : Thread Cert.FwdDxIdeal.nD Cert.FwdDxIdeal.τ).loc Cert.FwdDxIdeal.main_arg0)
      ∧ m' ((c.tc : Thread Cert.RefFwdDxIdeal.nD Cert.RefFwdDxIdeal.τ).loc Cert.RefFwdDxIdeal.main_arg1) = m ((c.tc : Thread Cert.FwdDxIdeal.nD Cert.FwdDxIdeal.τ).loc Cert.FwdDxIdeal.main_arg1)
      ∧ m' ((c.tc : Thread Cert.RefFwdDxIdeal.nD Cert.RefFwdDxIdeal.τ).loc Cert.RefFwdDxIdeal.main_arg2) = m ((c.tc : Thread Cert.FwdDxIdeal.nD Cert.FwdDxIdeal.τ).loc Cert.FwdDxIdeal.main_arg2)
      ∧ m' ((c.tc : Thread Cert.RefFwdDxIdeal.nD Cert.RefFwdDxIdeal.τ).loc Cert.RefFwdDxIdeal.main_arg3) = m ((c.tc : Thread Cert.FwdDxIdeal.nD Cert.FwdDxIdeal.τ).loc Cert.FwdDxIdeal.main_arg3)
      ∧ m' ((c.tc : Thread Cert.RefFwdDxIdeal.nD Cert.RefFwdDxIdeal.τ).loc Cert.RefFwdDxIdeal.main_arg4) = m ((c.tc : Thread Cert.FwdDxIdeal.nD Cert.FwdDxIdeal.τ).loc Cert.FwdDxIdeal.main_arg4)
      ∧ m' ((c.tc : Thread Cert.RefFwdDxIdeal.nD Cert.RefFwdDxIdeal.τ).loc Cert.RefFwdDxIdeal.main_arg5) = m ((c.tc : Thread Cert.FwdDxIdeal.nD Cert.FwdDxIdeal.τ).loc Cert.FwdDxIdeal.main_arg5)) →
    ∃ (v0 : (c : Dev Cert.FwdDxIdeal.nD) → Buf (Elt Ideal) ((c.tc : Thread Cert.FwdDxIdeal.nD Cert.FwdDxIdeal.τ).loc Cert.FwdDxIdeal.main_v0_0)) (v1 : (c : Dev Cert.FwdDxIdeal.nD) → Buf (Elt Ideal) ((c.tc : Thread Cert.FwdDxIdeal.nD Cert.FwdDxIdeal.τ).loc Cert.FwdDxIdeal.main_v0_1)) (v2 : (c : Dev Cert.FwdDxIdeal.nD) → Buf (Elt Ideal) ((c.tc : Thread Cert.FwdDxIdeal.nD Cert.FwdDxIdeal.τ).loc Cert.FwdDxIdeal.main_v0_2)) (v3 : (c : Dev Cert.FwdDxIdeal.nD) → Buf (Elt Ideal) ((c.tc : Thread Cert.FwdDxIdeal.nD Cert.FwdDxIdeal.τ).loc Cert.FwdDxIdeal.main_v0_3)) (v4 : (c : Dev Cert.FwdDxIdeal.nD) → Buf (Elt Ideal) ((c.tc : Thread Cert.FwdDxIdeal.nD Cert.FwdDxIdeal.τ).loc Cert.FwdDxIdeal.main_v0_4)) (v5 : (c : Dev Cert.FwdDxIdeal.nD) → Buf (Elt Ideal) ((c.tc : Thread Cert.FwdDxIdeal.nD Cert.FwdDxIdeal.τ).loc Cert.FwdDxIdeal.main_v0_5)) (v6 : (c : Dev Cert.FwdDxIdeal.nD) → Buf (Elt Ideal) ((c.tc : Thread Cert.FwdDxIdeal.nD Cert.FwdDxIdeal.τ).loc Cert.FwdDxIdeal.main_v0_6)) (v7 : (c : Dev Cert.FwdDxIdeal.nD) → Buf (Elt Ideal) ((c.tc : Thread Cert.FwdDxIdeal.nD Cert.FwdDxIdeal.τ).loc Cert.FwdDxIdeal.main_v0_7)),
      θ_run (Cert.FwdDxIdeal.defs (F := Ideal)) (onTc (τ := Cert.FwdDxIdeal.τ) (Cert.FwdDxIdeal.main (F := Ideal))) ⟨m, fun _ => 0, g⟩ (fun r => ∀ c : Dev Cert.FwdDxIdeal.nD,
          r.2.mem ((c.tc : Thread Cert.FwdDxIdeal.nD Cert.FwdDxIdeal.τ).loc Cert.FwdDxIdeal.main_v0_0) = v0 c
          ∧ r.2.mem ((c.tc : Thread Cert.FwdDxIdeal.nD Cert.FwdDxIdeal.τ).loc Cert.FwdDxIdeal.main_v0_1) = v1 c
          ∧ r.2.mem ((c.tc : Thread Cert.FwdDxIdeal.nD Cert.FwdDxIdeal.τ).loc Cert.FwdDxIdeal.main_v0_2) = v2 c
          ∧ r.2.mem ((c.tc : Thread Cert.FwdDxIdeal.nD Cert.FwdDxIdeal.τ).loc Cert.FwdDxIdeal.main_v0_3) = v3 c
          ∧ r.2.mem ((c.tc : Thread Cert.FwdDxIdeal.nD Cert.FwdDxIdeal.τ).loc Cert.FwdDxIdeal.main_v0_4) = v4 c
          ∧ r.2.mem ((c.tc : Thread Cert.FwdDxIdeal.nD Cert.FwdDxIdeal.τ).loc Cert.FwdDxIdeal.main_v0_5) = v5 c
          ∧ r.2.mem ((c.tc : Thread Cert.FwdDxIdeal.nD Cert.FwdDxIdeal.τ).loc Cert.FwdDxIdeal.main_v0_6) = v6 c
          ∧ r.2.mem ((c.tc : Thread Cert.FwdDxIdeal.nD Cert.FwdDxIdeal.τ).loc Cert.FwdDxIdeal.main_v0_7) = v7 c
          ∧ r.2.mem ((c.tc : Thread Cert.FwdDxIdeal.nD Cert.FwdDxIdeal.τ).loc Cert.FwdDxIdeal.main_arg0) = m ((c.tc : Thread Cert.FwdDxIdeal.nD Cert.FwdDxIdeal.τ).loc Cert.FwdDxIdeal.main_arg0)
          ∧ r.2.mem ((c.tc : Thread Cert.FwdDxIdeal.nD Cert.FwdDxIdeal.τ).loc Cert.FwdDxIdeal.main_arg1) = m ((c.tc : Thread Cert.FwdDxIdeal.nD Cert.FwdDxIdeal.τ).loc Cert.FwdDxIdeal.main_arg1)
          ∧ r.2.mem ((c.tc : Thread Cert.FwdDxIdeal.nD Cert.FwdDxIdeal.τ).loc Cert.FwdDxIdeal.main_arg2) = m ((c.tc : Thread Cert.FwdDxIdeal.nD Cert.FwdDxIdeal.τ).loc Cert.FwdDxIdeal.main_arg2)
          ∧ r.2.mem ((c.tc : Thread Cert.FwdDxIdeal.nD Cert.FwdDxIdeal.τ).loc Cert.FwdDxIdeal.main_arg3) = m ((c.tc : Thread Cert.FwdDxIdeal.nD Cert.FwdDxIdeal.τ).loc Cert.FwdDxIdeal.main_arg3)
          ∧ r.2.mem ((c.tc : Thread Cert.FwdDxIdeal.nD Cert.FwdDxIdeal.τ).loc Cert.FwdDxIdeal.main_arg4) = m ((c.tc : Thread Cert.FwdDxIdeal.nD Cert.FwdDxIdeal.τ).loc Cert.FwdDxIdeal.main_arg4)
          ∧ r.2.mem ((c.tc : Thread Cert.FwdDxIdeal.nD Cert.FwdDxIdeal.τ).loc Cert.FwdDxIdeal.main_arg5) = m ((c.tc : Thread Cert.FwdDxIdeal.nD Cert.FwdDxIdeal.τ).loc Cert.FwdDxIdeal.main_arg5))
      ∧ θ_run (Cert.RefFwdDxIdeal.defs (F := Ideal)) (onTc (τ := Cert.RefFwdDxIdeal.τ) (Cert.RefFwdDxIdeal.main (F := Ideal))) ⟨m', fun _ => 0, g'⟩ (fun r => ∀ c : Dev Cert.RefFwdDxIdeal.nD,
          r.2.mem ((c.tc : Thread Cert.RefFwdDxIdeal.nD Cert.RefFwdDxIdeal.τ).loc Cert.RefFwdDxIdeal.main_v0_0) = v0 c
          ∧ r.2.mem ((c.tc : Thread Cert.RefFwdDxIdeal.nD Cert.RefFwdDxIdeal.τ).loc Cert.RefFwdDxIdeal.main_v0_1) = v1 c
          ∧ r.2.mem ((c.tc : Thread Cert.RefFwdDxIdeal.nD Cert.RefFwdDxIdeal.τ).loc Cert.RefFwdDxIdeal.main_v0_2) = v2 c
          ∧ r.2.mem ((c.tc : Thread Cert.RefFwdDxIdeal.nD Cert.RefFwdDxIdeal.τ).loc Cert.RefFwdDxIdeal.main_v0_3) = v3 c
          ∧ r.2.mem ((c.tc : Thread Cert.RefFwdDxIdeal.nD Cert.RefFwdDxIdeal.τ).loc Cert.RefFwdDxIdeal.main_v0_4) = v4 c
          ∧ r.2.mem ((c.tc : Thread Cert.RefFwdDxIdeal.nD Cert.RefFwdDxIdeal.τ).loc Cert.RefFwdDxIdeal.main_v0_5) = v5 c
          ∧ r.2.mem ((c.tc : Thread Cert.RefFwdDxIdeal.nD Cert.RefFwdDxIdeal.τ).loc Cert.RefFwdDxIdeal.main_v0_6) = v6 c
          ∧ r.2.mem ((c.tc : Thread Cert.RefFwdDxIdeal.nD Cert.RefFwdDxIdeal.τ).loc Cert.RefFwdDxIdeal.main_v0_7) = v7 c
          ∧ r.2.mem ((c.tc : Thread Cert.RefFwdDxIdeal.nD Cert.RefFwdDxIdeal.τ).loc Cert.RefFwdDxIdeal.main_arg0) = m' ((c.tc : Thread Cert.RefFwdDxIdeal.nD Cert.RefFwdDxIdeal.τ).loc Cert.RefFwdDxIdeal.main_arg0)
          ∧ r.2.mem ((c.tc : Thread Cert.RefFwdDxIdeal.nD Cert.RefFwdDxIdeal.τ).loc Cert.RefFwdDxIdeal.main_arg1) = m' ((c.tc : Thread Cert.RefFwdDxIdeal.nD Cert.RefFwdDxIdeal.τ).loc Cert.RefFwdDxIdeal.main_arg1)
          ∧ r.2.mem ((c.tc : Thread Cert.RefFwdDxIdeal.nD Cert.RefFwdDxIdeal.τ).loc Cert.RefFwdDxIdeal.main_arg2) = m' ((c.tc : Thread Cert.RefFwdDxIdeal.nD Cert.RefFwdDxIdeal.τ).loc Cert.RefFwdDxIdeal.main_arg2)
          ∧ r.2.mem ((c.tc : Thread Cert.RefFwdDxIdeal.nD Cert.RefFwdDxIdeal.τ).loc Cert.RefFwdDxIdeal.main_arg3) = m' ((c.tc : Thread Cert.RefFwdDxIdeal.nD Cert.RefFwdDxIdeal.τ).loc Cert.RefFwdDxIdeal.main_arg3)
          ∧ r.2.mem ((c.tc : Thread Cert.RefFwdDxIdeal.nD Cert.RefFwdDxIdeal.τ).loc Cert.RefFwdDxIdeal.main_arg4) = m' ((c.tc : Thread Cert.RefFwdDxIdeal.nD Cert.RefFwdDxIdeal.τ).loc Cert.RefFwdDxIdeal.main_arg4)
          ∧ r.2.mem ((c.tc : Thread Cert.RefFwdDxIdeal.nD Cert.RefFwdDxIdeal.τ).loc Cert.RefFwdDxIdeal.main_arg5) = m' ((c.tc : Thread Cert.RefFwdDxIdeal.nD Cert.RefFwdDxIdeal.τ).loc Cert.RefFwdDxIdeal.main_arg5))

def preserves_Dw_DwIdeal : Prop :=
  True

def algebraic_DwIdeal_RefDwIdeal [hDwIdeal : Cert.DwIdeal.Facts] [hRefDwIdeal : Cert.RefDwIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.RefDwIdeal.nD Cert.RefDwIdeal.τ Cert.RefDwIdeal.sig) → Buf (Elt Ideal) ℓ) (g' : Dev Cert.RefDwIdeal.nD → PrngReg), Pre_DwIdeal m →
    (∀ c : Dev Cert.DwIdeal.nD,
      m' ((c.tc : Thread Cert.RefDwIdeal.nD Cert.RefDwIdeal.τ).loc Cert.RefDwIdeal.main_arg0) = m ((c.tc : Thread Cert.DwIdeal.nD Cert.DwIdeal.τ).loc Cert.DwIdeal.main_arg0)
      ∧ m' ((c.tc : Thread Cert.RefDwIdeal.nD Cert.RefDwIdeal.τ).loc Cert.RefDwIdeal.main_arg1) = m ((c.tc : Thread Cert.DwIdeal.nD Cert.DwIdeal.τ).loc Cert.DwIdeal.main_arg1)
      ∧ m' ((c.tc : Thread Cert.RefDwIdeal.nD Cert.RefDwIdeal.τ).loc Cert.RefDwIdeal.main_arg2) = m ((c.tc : Thread Cert.DwIdeal.nD Cert.DwIdeal.τ).loc Cert.DwIdeal.main_arg2)
      ∧ m' ((c.tc : Thread Cert.RefDwIdeal.nD Cert.RefDwIdeal.τ).loc Cert.RefDwIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.RefDwIdeal.defs (F := Ideal)) (onTc (τ := Cert.RefDwIdeal.τ) (Cert.RefDwIdeal.main (F := Ideal))) ⟨m', fun _ => 0, g'⟩ (fun r => ∀ c : Dev Cert.RefDwIdeal.nD,
          r.2.mem ((c.tc : Thread Cert.RefDwIdeal.nD Cert.RefDwIdeal.τ).loc Cert.RefDwIdeal.main_v0) = v0 c
          ∧ r.2.mem ((c.tc : Thread Cert.RefDwIdeal.nD Cert.RefDwIdeal.τ).loc Cert.RefDwIdeal.main_arg0) = m' ((c.tc : Thread Cert.RefDwIdeal.nD Cert.RefDwIdeal.τ).loc Cert.RefDwIdeal.main_arg0)
          ∧ r.2.mem ((c.tc : Thread Cert.RefDwIdeal.nD Cert.RefDwIdeal.τ).loc Cert.RefDwIdeal.main_arg1) = m' ((c.tc : Thread Cert.RefDwIdeal.nD Cert.RefDwIdeal.τ).loc Cert.RefDwIdeal.main_arg1)
          ∧ r.2.mem ((c.tc : Thread Cert.RefDwIdeal.nD Cert.RefDwIdeal.τ).loc Cert.RefDwIdeal.main_arg2) = m' ((c.tc : Thread Cert.RefDwIdeal.nD Cert.RefDwIdeal.τ).loc Cert.RefDwIdeal.main_arg2)
          ∧ r.2.mem ((c.tc : Thread Cert.RefDwIdeal.nD Cert.RefDwIdeal.τ).loc Cert.RefDwIdeal.main_arg3) = m' ((c.tc : Thread Cert.RefDwIdeal.nD Cert.RefDwIdeal.τ).loc Cert.RefDwIdeal.main_arg3))

def preserves_QuantiseW_QuantiseWIdeal : Prop :=
  True

def algebraic_QuantiseWIdeal_RefQuantiseWIdeal [hQuantiseWIdeal : Cert.QuantiseWIdeal.Facts] [hRefQuantiseWIdeal : Cert.RefQuantiseWIdeal.Facts] : Prop :=
  ∀ (m : (ℓ : Loc Cert.QuantiseWIdeal.nD Cert.QuantiseWIdeal.τ Cert.QuantiseWIdeal.sig) → Buf (Elt Ideal) ℓ) (g : Dev Cert.QuantiseWIdeal.nD → PrngReg)
    (m' : (ℓ : Loc Cert.RefQuantiseWIdeal.nD Cert.RefQuantiseWIdeal.τ Cert.RefQuantiseWIdeal.sig) → Buf (Elt Ideal) ℓ) (g' : Dev Cert.RefQuantiseWIdeal.nD → PrngReg), Pre_QuantiseWIdeal m →
    (∀ c : Dev Cert.QuantiseWIdeal.nD,
      m' ((c.tc : Thread Cert.RefQuantiseWIdeal.nD Cert.RefQuantiseWIdeal.τ).loc Cert.RefQuantiseWIdeal.main_arg0) = m ((c.tc : Thread Cert.QuantiseWIdeal.nD Cert.QuantiseWIdeal.τ).loc Cert.QuantiseWIdeal.main_arg0)
      ∧ m' ((c.tc : Thread Cert.RefQuantiseWIdeal.nD Cert.RefQuantiseWIdeal.τ).loc Cert.RefQuantiseWIdeal.main_arg1) = m ((c.tc : Thread Cert.QuantiseWIdeal.nD Cert.QuantiseWIdeal.τ).loc Cert.QuantiseWIdeal.main_arg1)) →
    ∃ (v0 : (c : Dev Cert.QuantiseWIdeal.nD) → Buf (Elt Ideal) ((c.tc : Thread Cert.QuantiseWIdeal.nD Cert.QuantiseWIdeal.τ).loc Cert.QuantiseWIdeal.main_v0_0)) (v1 : (c : Dev Cert.QuantiseWIdeal.nD) → Buf (Elt Ideal) ((c.tc : Thread Cert.QuantiseWIdeal.nD Cert.QuantiseWIdeal.τ).loc Cert.QuantiseWIdeal.main_v0_1)) (v2 : (c : Dev Cert.QuantiseWIdeal.nD) → Buf (Elt Ideal) ((c.tc : Thread Cert.QuantiseWIdeal.nD Cert.QuantiseWIdeal.τ).loc Cert.QuantiseWIdeal.main_v0_2)),
      θ_run (Cert.QuantiseWIdeal.defs (F := Ideal)) (onTc (τ := Cert.QuantiseWIdeal.τ) (Cert.QuantiseWIdeal.main (F := Ideal))) ⟨m, fun _ => 0, g⟩ (fun r => ∀ c : Dev Cert.QuantiseWIdeal.nD,
          r.2.mem ((c.tc : Thread Cert.QuantiseWIdeal.nD Cert.QuantiseWIdeal.τ).loc Cert.QuantiseWIdeal.main_v0_0) = v0 c
          ∧ r.2.mem ((c.tc : Thread Cert.QuantiseWIdeal.nD Cert.QuantiseWIdeal.τ).loc Cert.QuantiseWIdeal.main_v0_1) = v1 c
          ∧ r.2.mem ((c.tc : Thread Cert.QuantiseWIdeal.nD Cert.QuantiseWIdeal.τ).loc Cert.QuantiseWIdeal.main_v0_2) = v2 c
          ∧ r.2.mem ((c.tc : Thread Cert.QuantiseWIdeal.nD Cert.QuantiseWIdeal.τ).loc Cert.QuantiseWIdeal.main_arg0) = m ((c.tc : Thread Cert.QuantiseWIdeal.nD Cert.QuantiseWIdeal.τ).loc Cert.QuantiseWIdeal.main_arg0)
          ∧ r.2.mem ((c.tc : Thread Cert.QuantiseWIdeal.nD Cert.QuantiseWIdeal.τ).loc Cert.QuantiseWIdeal.main_arg1) = m ((c.tc : Thread Cert.QuantiseWIdeal.nD Cert.QuantiseWIdeal.τ).loc Cert.QuantiseWIdeal.main_arg1))
      ∧ θ_run (Cert.RefQuantiseWIdeal.defs (F := Ideal)) (onTc (τ := Cert.RefQuantiseWIdeal.τ) (Cert.RefQuantiseWIdeal.main (F := Ideal))) ⟨m', fun _ => 0, g'⟩ (fun r => ∀ c : Dev Cert.RefQuantiseWIdeal.nD,
          r.2.mem ((c.tc : Thread Cert.RefQuantiseWIdeal.nD Cert.RefQuantiseWIdeal.τ).loc Cert.RefQuantiseWIdeal.main_v0_0) = v0 c
          ∧ r.2.mem ((c.tc : Thread Cert.RefQuantiseWIdeal.nD Cert.RefQuantiseWIdeal.τ).loc Cert.RefQuantiseWIdeal.main_v0_1) = v1 c
          ∧ r.2.mem ((c.tc : Thread Cert.RefQuantiseWIdeal.nD Cert.RefQuantiseWIdeal.τ).loc Cert.RefQuantiseWIdeal.main_v0_2) = v2 c
          ∧ r.2.mem ((c.tc : Thread Cert.RefQuantiseWIdeal.nD Cert.RefQuantiseWIdeal.τ).loc Cert.RefQuantiseWIdeal.main_arg0) = m' ((c.tc : Thread Cert.RefQuantiseWIdeal.nD Cert.RefQuantiseWIdeal.τ).loc Cert.RefQuantiseWIdeal.main_arg0)
          ∧ r.2.mem ((c.tc : Thread Cert.RefQuantiseWIdeal.nD Cert.RefQuantiseWIdeal.τ).loc Cert.RefQuantiseWIdeal.main_arg1) = m' ((c.tc : Thread Cert.RefQuantiseWIdeal.nD Cert.RefQuantiseWIdeal.τ).loc Cert.RefQuantiseWIdeal.main_arg1))

def Claim : Prop :=
  ∃ (hFwdDx : Cert.FwdDx.Facts) (hFwdDxIdeal : Cert.FwdDxIdeal.Facts) (hRefFwdDxIdeal : Cert.RefFwdDxIdeal.Facts) (hDw : Cert.Dw.Facts) (hDwIdeal : Cert.DwIdeal.Facts) (hRefDwIdeal : Cert.RefDwIdeal.Facts) (hQuantiseW : Cert.QuantiseW.Facts) (hQuantiseWIdeal : Cert.QuantiseWIdeal.Facts) (hRefQuantiseWIdeal : Cert.RefQuantiseWIdeal.Facts),
    quiescent_FwdDx (hFwdDx := hFwdDx)
    ∧ quiescent_FwdDxIdeal (hFwdDxIdeal := hFwdDxIdeal)
    ∧ quiescent_RefFwdDxIdeal (hRefFwdDxIdeal := hRefFwdDxIdeal)
    ∧ quiescent_Dw (hDw := hDw)
    ∧ quiescent_DwIdeal (hDwIdeal := hDwIdeal)
    ∧ quiescent_RefDwIdeal (hRefDwIdeal := hRefDwIdeal)
    ∧ quiescent_QuantiseW (hQuantiseW := hQuantiseW)
    ∧ quiescent_QuantiseWIdeal (hQuantiseWIdeal := hQuantiseWIdeal)
    ∧ quiescent_RefQuantiseWIdeal (hRefQuantiseWIdeal := hRefQuantiseWIdeal)
    ∧ preserves_FwdDx_FwdDxIdeal
    ∧ algebraic_FwdDxIdeal_RefFwdDxIdeal (hFwdDxIdeal := hFwdDxIdeal) (hRefFwdDxIdeal := hRefFwdDxIdeal)
    ∧ preserves_Dw_DwIdeal
    ∧ algebraic_DwIdeal_RefDwIdeal (hDwIdeal := hDwIdeal) (hRefDwIdeal := hRefDwIdeal)
    ∧ preserves_QuantiseW_QuantiseWIdeal
    ∧ algebraic_QuantiseWIdeal_RefQuantiseWIdeal (hQuantiseWIdeal := hQuantiseWIdeal) (hRefQuantiseWIdeal := hRefQuantiseWIdeal)
-- ==== FwdDx.lean ====
abbrev S16 : Shape := ⟨1, ![16]⟩
abbrev S6x3072x1536 : Shape := ⟨3, ![6, 3072, 1536]⟩
abbrev S6x3072x6400 : Shape := ⟨3, ![6, 3072, 6400]⟩
abbrev S1536x6400 : Shape := ⟨2, ![1536, 6400]⟩
abbrev S2304x8x6400 : Shape := ⟨3, ![2304, 8, 6400]⟩
abbrev S2304x8x1536 : Shape := ⟨3, ![2304, 8, 1536]⟩
abbrev S1 : Shape := ⟨1, ![1]⟩
abbrev S1x512x1536 : Shape := ⟨3, ![1, 512, 1536]⟩
abbrev S1x512x6400 : Shape := ⟨3, ![1, 512, 6400]⟩
abbrev S64x8x6400 : Shape := ⟨3, ![64, 8, 6400]⟩
abbrev S64x8x1536 : Shape := ⟨3, ![64, 8, 1536]⟩
abbrev S16x1536 : Shape := ⟨2, ![16, 1536]⟩
abbrev S16x6400 : Shape := ⟨2, ![16, 6400]⟩
abbrev S512x1536 : Shape := ⟨2, ![512, 1536]⟩
abbrev S512x6400 : Shape := ⟨2, ![512, 6400]⟩
abbrev S1x1536 : Shape := ⟨2, ![1, 1536]⟩
abbrev S1x6400 : Shape := ⟨2, ![1, 6400]⟩
abbrev S1536x1280 : Shape := ⟨2, ![1536, 1280]⟩
abbrev S512x1280 : Shape := ⟨2, ![512, 1280]⟩
abbrev S64x8x1280 : Shape := ⟨3, ![64, 8, 1280]⟩
abbrev S32x16x1536 : Shape := ⟨3, ![32, 16, 1536]⟩
abbrev S32x16x6400 : Shape := ⟨3, ![32, 16, 6400]⟩
abbrev S1x16x1536 : Shape := ⟨3, ![1, 16, 1536]⟩
abbrev S1x1x1 : Shape := ⟨3, ![1, 1, 1]⟩
abbrev S1x16x6400 : Shape := ⟨3, ![1, 16, 6400]⟩

abbrev nBuf : Space → Nat
  | .hbm => 14
  | .vmem => 15
  | .smem => 7
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S16, .f32⟩
  | .hbm, ⟨3, _⟩ => ⟨S6x3072x1536, .bf16⟩
  | .hbm, ⟨4, _⟩ => ⟨S6x3072x6400, .bf16⟩
  | .hbm, ⟨5, _⟩ => ⟨S1536x6400, .fp8e4m3⟩
  | .hbm, ⟨6, _⟩ => ⟨S2304x8x6400, .bf16⟩
  | .hbm, ⟨7, _⟩ => ⟨S2304x8x1536, .bf16⟩
  | .hbm, ⟨8, _⟩ => ⟨S6x3072x1536, .fp8e4m3⟩
  | .hbm, ⟨9, _⟩ => ⟨S6x3072x6400, .fp8e5m2⟩
  | .hbm, ⟨10, _⟩ => ⟨S1, .f32⟩
  | .hbm, ⟨11, _⟩ => ⟨S1, .f32⟩
  | .hbm, ⟨12, _⟩ => ⟨S16, .f32⟩
  | .hbm, ⟨13, _⟩ => ⟨S16, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x6400, .bf16⟩
  | .local _ .vmem, ⟨3, _⟩ => ⟨S1x512x6400, .bf16⟩
  | .local _ .vmem, ⟨4, _⟩ => ⟨S1536x6400, .fp8e4m3⟩
  | .local _ .vmem, ⟨5, _⟩ => ⟨S64x8x6400, .bf16⟩
  | .local _ .vmem, ⟨6, _⟩ => ⟨S64x8x6400, .bf16⟩
  | .local _ .vmem, ⟨7, _⟩ => ⟨S64x8x1536, .bf16⟩
  | .local _ .vmem, ⟨8, _⟩ => ⟨S64x8x1536, .bf16⟩
  | .local _ .vmem, ⟨9, _⟩ => ⟨S1x512x1536, .fp8e4m3⟩
  | .local _ .vmem, ⟨10, _⟩ => ⟨S1x512x1536, .fp8e4m3⟩
  | .local _ .vmem, ⟨11, _⟩ => ⟨S1x512x6400, .fp8e5m2⟩
  | .local _ .vmem, ⟨12, _⟩ => ⟨S1x512x6400, .fp8e5m2⟩
  | .local _ .vmem, ⟨13, _⟩ => ⟨S16x1536, .bf16⟩
  | .local _ .vmem, ⟨14, _⟩ => ⟨S16x6400, .bf16⟩
  | .local _ .smem, ⟨0, _⟩ => ⟨S16, .f32⟩
  | .local _ .smem, ⟨1, _⟩ => ⟨S16, .f32⟩
  | .local _ .smem, ⟨2, _⟩ => ⟨S16, .f32⟩
  | .local _ .smem, ⟨3, _⟩ => ⟨S1, .f32⟩
  | .local _ .smem, ⟨4, _⟩ => ⟨S1, .f32⟩
  | .local _ .smem, ⟨5, _⟩ => ⟨S16, .f32⟩
  | .local _ .smem, ⟨6, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg10_0 : Ref sig .tc := ⟨.smem, 3, rfl⟩
abbrev cc0_stg11_0 : Ref sig .tc := ⟨.smem, 4, rfl⟩
abbrev cc0_stg12_0 : Ref sig .tc := ⟨.smem, 5, rfl⟩
abbrev cc0_stg13_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![36], ![false]⟩

def k0_cond3 (i : grid0.Coords) : BitVec 1 :=
  let arg0 : BitVec 32 := BitVec.ofNat 32 (i 0).val
  let c35_i32 : BitVec 32 := 35#32
  let v235 : BitVec 1 := Scalar.cmpi .eq arg0 c35_i32
  let v236 : BitVec 32 := Scalar.extui v235
  let c0_i32_109 : BitVec 32 := 0#32
  let v237 : BitVec 1 := Scalar.cmpi .ne v236 c0_i32_109
  v237

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x6400 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x6400 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x8x6400 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1536 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x6400 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RefFwdDxIdeal.lean ====
abbrev S16 : Shape := ⟨1, ![16]⟩
abbrev S6x3072x1536 : Shape := ⟨3, ![6, 3072, 1536]⟩
abbrev S6x3072x6400 : Shape := ⟨3, ![6, 3072, 6400]⟩
abbrev S1536x6400 : Shape := ⟨2, ![1536, 6400]⟩
abbrev S2304x8x6400 : Shape := ⟨3, ![2304, 8, 6400]⟩
abbrev S2304x8x1536 : Shape := ⟨3, ![2304, 8, 1536]⟩
abbrev S1 : Shape := ⟨1, ![1]⟩
abbrev S1x6x3072x1536 : Shape := ⟨4, ![1, 6, 3072, 1536]⟩
abbrev S1x1x1x1 : Shape := ⟨4, ![1, 1, 1, 1]⟩
abbrev S15 : Shape := ⟨1, ![15]⟩
abbrev S1x16 : Shape := ⟨2, ![1, 16]⟩
abbrev S1x1 : Shape := ⟨2, ![1, 1]⟩
abbrev S1x6x3072x6400 : Shape := ⟨4, ![1, 6, 3072, 6400]⟩
abbrev S18432x1536 : Shape := ⟨2, ![18432, 1536]⟩
abbrev S18432x6400 : Shape := ⟨2, ![18432, 6400]⟩

abbrev nBuf : Space → Nat
  | .hbm => 14
  | .vmem => 12
  | .smem => 2
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S16, .f32⟩
  | .hbm, ⟨3, _⟩ => ⟨S6x3072x1536, .bf16⟩
  | .hbm, ⟨4, _⟩ => ⟨S6x3072x6400, .bf16⟩
  | .hbm, ⟨5, _⟩ => ⟨S1536x6400, .fp8e4m3⟩
  | .hbm, ⟨6, _⟩ => ⟨S2304x8x6400, .bf16⟩
  | .hbm, ⟨7, _⟩ => ⟨S2304x8x1536, .bf16⟩
  | .hbm, ⟨8, _⟩ => ⟨S6x3072x1536, .fp8e4m3⟩
  | .hbm, ⟨9, _⟩ => ⟨S6x3072x6400, .fp8e5m2⟩
  | .hbm, ⟨10, _⟩ => ⟨S1, .f32⟩
  | .hbm, ⟨11, _⟩ => ⟨S1, .f32⟩
  | .hbm, ⟨12, _⟩ => ⟨S16, .f32⟩
  | .hbm, ⟨13, _⟩ => ⟨S16, .f32⟩
  | .local _ .vmem, ⟨0, _⟩ => ⟨S16, .f32⟩
  | .local _ .vmem, ⟨1, _⟩ => ⟨S16, .f32⟩
  | .local _ .vmem, ⟨2, _⟩ => ⟨S16, .f32⟩
  | .local _ .vmem, ⟨3, _⟩ => ⟨S6x3072x1536, .bf16⟩
  | .local _ .vmem, ⟨4, _⟩ => ⟨S6x3072x6400, .bf16⟩
  | .local _ .vmem, ⟨5, _⟩ => ⟨S1536x6400, .fp8e4m3⟩
  | .local _ .vmem, ⟨6, _⟩ => ⟨S2304x8x6400, .bf16⟩
  | .local _ .vmem, ⟨7, _⟩ => ⟨S2304x8x1536, .bf16⟩
  | .local _ .vmem, ⟨8, _⟩ => ⟨S6x3072x1536, .fp8e4m3⟩
  | .local _ .vmem, ⟨9, _⟩ => ⟨S6x3072x6400, .fp8e5m2⟩
  | .local _ .vmem, ⟨10, _⟩ => ⟨S16, .f32⟩
  | .local _ .vmem, ⟨11, _⟩ => ⟨S16, .f32⟩
  | .local _ .smem, ⟨0, _⟩ => ⟨S1, .f32⟩
  | .local _ .smem, ⟨1, _⟩ => ⟨S1, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg10_0 : Ref sig .tc := ⟨.smem, 0, rfl⟩
abbrev cc0_stg11_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x3072x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x3072x6400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x6400 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x8x6400 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x8x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x3072x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x3072x6400 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Dw.lean ====
abbrev S16 : Shape := ⟨1, ![16]⟩
abbrev S6x3072x1536 : Shape := ⟨3, ![6, 3072, 1536]⟩
abbrev S6x3072x6400 : Shape := ⟨3, ![6, 3072, 6400]⟩
abbrev S1536x6400 : Shape := ⟨2, ![1536, 6400]⟩
abbrev S1x1024x1536 : Shape := ⟨3, ![1, 1024, 1536]⟩
abbrev S1x1024x6400 : Shape := ⟨3, ![1, 1024, 6400]⟩
abbrev S1024x1536 : Shape := ⟨2, ![1024, 1536]⟩
abbrev S1024x6400 : Shape := ⟨2, ![1024, 6400]⟩
abbrev S1 : Shape := ⟨1, ![1]⟩

abbrev nBuf : Space → Nat
  | .hbm => 5
  | .vmem => 5
  | .smem => 2
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S6x3072x1536, .fp8e4m3⟩
  | .hbm, ⟨3, _⟩ => ⟨S6x3072x6400, .fp8e5m2⟩
  | .hbm, ⟨4, _⟩ => ⟨S1536x6400, .f32⟩
  | .local _ .vmem, ⟨0, _⟩ => ⟨S1x1024x1536, .fp8e4m3⟩
  | .local _ .vmem, ⟨1, _⟩ => ⟨S1x1024x1536, .fp8e4m3⟩
  | .local _ .vmem, ⟨2, _⟩ => ⟨S1x1024x6400, .fp8e5m2⟩
  | .local _ .vmem, ⟨3, _⟩ => ⟨S1x1024x6400, .fp8e5m2⟩
  | .local _ .vmem, ⟨4, _⟩ => ⟨S1536x6400, .f32⟩
  | .local _ .smem, ⟨0, _⟩ => ⟨S16, .f32⟩
  | .local _ .smem, ⟨1, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x6400 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x6400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefDwIdeal.lean ====
abbrev S16 : Shape := ⟨1, ![16]⟩
abbrev S6x3072x1536 : Shape := ⟨3, ![6, 3072, 1536]⟩
abbrev S6x3072x6400 : Shape := ⟨3, ![6, 3072, 6400]⟩
abbrev S1536x6400 : Shape := ⟨2, ![1536, 6400]⟩
abbrev S1x16 : Shape := ⟨2, ![1, 16]⟩
abbrev S1 : Shape := ⟨1, ![1]⟩
abbrev S1x1 : Shape := ⟨2, ![1, 1]⟩
abbrev S18432x1536 : Shape := ⟨2, ![18432, 1536]⟩
abbrev S18432x6400 : Shape := ⟨2, ![18432, 6400]⟩

abbrev nBuf : Space → Nat
  | .hbm => 5
  | .vmem => 5
  | .smem => 0
  | _ => 0

abbrev bufTy : (tb : Table) → Fin (tcTables nBuf tb) → BufTy
  | .hbm, ⟨0, _⟩ => ⟨S16, .f32⟩
  | .hbm, ⟨1, _⟩ => ⟨S16, .f32⟩
  | .hbm, ⟨2, _⟩ => ⟨S6x3072x1536, .fp8e4m3⟩
  | .hbm, ⟨3, _⟩ => ⟨S6x3072x6400, .fp8e5m2⟩
  | .hbm, ⟨4, _⟩ => ⟨S1536x6400, .f32⟩
  | .local _ .vmem, ⟨0, _⟩ => ⟨S16, .f32⟩
  | .local _ .vmem, ⟨1, _⟩ => ⟨S16, .f32⟩
  | .local _ .vmem, ⟨2, _⟩ => ⟨S6x3072x1536, .fp8e4m3⟩
  | .local _ .vmem, ⟨3, _⟩ => ⟨S6x3072x6400, .fp8e5m2⟩
  | .local _ .vmem, ⟨4, _⟩ => ⟨S1536x6400, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x3072x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x3072x6400 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x6400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== QuantiseW.lean ====
abbrev S16 : Shape := ⟨1, ![16]⟩
abbrev S1536x6400 : Shape := ⟨2, ![1536, 6400]⟩
abbrev S1 : Shape := ⟨1, ![1]⟩
abbrev S256x6400 : Shape := ⟨2, ![256, 6400]⟩
abbrev S8x6400 : Shape := ⟨2, ![8, 6400]⟩
abbrev S32x8x6400 : Shape := ⟨3, ![32, 8, 6400]⟩
abbrev S1x8x6400 : Shape := ⟨3, ![1, 8, 6400]⟩
abbrev S1x1x1 : Shape := ⟨3, ![1, 1, 1]⟩

abbrev nBuf : Space → Nat
  | .hbm => 5
  | .vmem => 5
  | .smem => 3
  | _ => 0

abbrev bufTy : (tb : Table) → Fin (tcTables nBuf tb) → BufTy
  | .hbm, ⟨0, _⟩ => ⟨S16, .f32⟩
  | .hbm, ⟨1, _⟩ => ⟨S1536x6400, .f32⟩
  | .hbm, ⟨2, _⟩ => ⟨S1536x6400, .fp8e4m3⟩
  | .hbm, ⟨3, _⟩ => ⟨S1, .f32⟩
  | .hbm, ⟨4, _⟩ => ⟨S16, .f32⟩
  | .local _ .vmem, ⟨0, _⟩ => ⟨S256x6400, .f32⟩
  | .local _ .vmem, ⟨1, _⟩ => ⟨S256x6400, .f32⟩
  | .local _ .vmem, ⟨2, _⟩ => ⟨S256x6400, .fp8e4m3⟩
  | .local _ .vmem, ⟨3, _⟩ => ⟨S256x6400, .fp8e4m3⟩
  | .local _ .vmem, ⟨4, _⟩ => ⟨S8x6400, .f32⟩
  | .local _ .smem, ⟨0, _⟩ => ⟨S16, .f32⟩
  | .local _ .smem, ⟨1, _⟩ => ⟨S1, .f32⟩
  | .local _ .smem, ⟨2, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![6], ![false]⟩

def k0_cond3 (i : grid0.Coords) : BitVec 1 :=
  let arg0 : BitVec 32 := BitVec.ofNat 32 (i 0).val
  let c5_i32 : BitVec 32 := 5#32
  let v68 : BitVec 1 := Scalar.cmpi .eq arg0 c5_i32
  let v69 : BitVec 32 := Scalar.extui v68
  let c0_i32_17 : BitVec 32 := 0#32
  let v70 : BitVec 1 := Scalar.cmpi .ne v69 c0_i32_17
  v70

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6400 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefQuantiseWIdeal.lean ====
abbrev S16 : Shape := ⟨1, ![16]⟩
abbrev S1536x6400 : Shape := ⟨2, ![1536, 6400]⟩
abbrev S1 : Shape := ⟨1, ![1]⟩
abbrev S1x1536x6400 : Shape := ⟨3, ![1, 1536, 6400]⟩
abbrev S1x1x1 : Shape := ⟨3, ![1, 1, 1]⟩
abbrev S15 : Shape := ⟨1, ![15]⟩
abbrev S1x16 : Shape := ⟨2, ![1, 16]⟩
abbrev S1x1 : Shape := ⟨2, ![1, 1]⟩

abbrev nBuf : Space → Nat
  | .hbm => 5
  | .vmem => 4
  | .smem => 1
  | _ => 0

abbrev bufTy : (tb : Table) → Fin (tcTables nBuf tb) → BufTy
  | .hbm, ⟨0, _⟩ => ⟨S16, .f32⟩
  | .hbm, ⟨1, _⟩ => ⟨S1536x6400, .f32⟩
  | .hbm, ⟨2, _⟩ => ⟨S1536x6400, .fp8e4m3⟩
  | .hbm, ⟨3, _⟩ => ⟨S1, .f32⟩
  | .hbm, ⟨4, _⟩ => ⟨S16, .f32⟩
  | .local _ .vmem, ⟨0, _⟩ => ⟨S16, .f32⟩
  | .local _ .vmem, ⟨1, _⟩ => ⟨S1536x6400, .f32⟩
  | .local _ .vmem, ⟨2, _⟩ => ⟨S1536x6400, .fp8e4m3⟩
  | .local _ .vmem, ⟨3, _⟩ => ⟨S16, .f32⟩
  | .local _ .smem, ⟨0, _⟩ => ⟨S1, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x6400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x6400 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Scale.lean ====
/-
  The delayed scaling, as both sides state it.

  A history of sixteen words gives `a`, its greatest word; `a` times `1 / fp8_max` gives a ratio, and the scale is the
  power of two whose exponent is the ratio's exponent as `frexp` numbers it (`2 ^ (e - 1) ≤ |ratio| < 2 ^ e`; `0` where
  the ratio is zero or infinite, or `a` is zero). `exponent`, `scale` and `inverse` are that text, of `a`; what differs
  between a kernel and its reference is how `a` is formed (fifteen scalar maxima against one vector reduction), and
  over the extended reals the two are one value (`greatest_eq`).
-/
module

public import Idealize.ShloMosaic.Lib.Pointwise
public import Idealize.ShloMosaic.Lib.Tactic

@[expose] public section

noncomputable section

namespace Cert.Fp8

open Idealize.ShloMosaic

section AnyFloats
variable {F : FTy → Type} [FloatOps F]

/-- `|a · κ|`, `κ` the word of `1 / fp8_max`. -/
def ratio (κ : BitVec 32) (a : F .f32) : F .f32 := Scalar.absf (Scalar.mulf a (Scalar.ofBits .f32 κ))

/-- The exponent word: `⌊log ratio / log 2⌋ + 1`, `0` where the ratio is zero or infinite and where `a` is zero. -/
def exponent (κ : BitVec 32) (a : F .f32) : BitVec 32 :=
  Scalar.select (Scalar.cmpf .oeq a (Scalar.ofBits .f32 0x00000000#32)) 0#32
    (Scalar.select
      (Scalar.andi (Scalar.cmpf .ogt (ratio κ a) (Scalar.ofBits .f32 0x00000000#32))
        (Scalar.cmpf .olt (ratio κ a) (Scalar.ofBits .f32 0x7F800000#32)))
      (Scalar.addi (Scalar.fptosi 32
        (Scalar.floor (Scalar.divf (Scalar.log (ratio κ a)) (Scalar.log (Scalar.ofBits .f32 0x40000000#32))))) 1#32)
      0#32)

/-- The scale `2 ^ e`. -/
def scale (κ : BitVec 32) (a : F .f32) : F .f32 := Scalar.exp2 (Scalar.sitofp .f32 (exponent κ a))

/-- The factor the codes are formed with, `2 ^ (-e)`. -/
def inverse (κ : BitVec 32) (a : F .f32) : F .f32 :=
  Scalar.exp2 (Scalar.sitofp .f32 (Scalar.subi 0#32 (exponent κ a)))

/-- A history: sixteen words. -/
abbrev Hist (F : FTy → Type) : Type := (⟨1, ![16]⟩ : Shape).Idx → F .f32

/-- The greatest of sixteen words as the kernels form it: fifteen scalar maxima, first word to last. -/
def chain16 (a0 a1 a2 a3 a4 a5 a6 a7 a8 a9 a10 a11 a12 a13 a14 a15 : F .f32) : F .f32 :=
  Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf a0 a1) a2) a3) a4) a5) a6) a7) a8) a9) a10) a11) a12) a13) a14) a15

/-- The greatest word of a history, so formed. -/
def greatest (h : Hist F) : F .f32 :=
  chain16 (h (ix1 0)) (h (ix1 1)) (h (ix1 2)) (h (ix1 3)) (h (ix1 4)) (h (ix1 5)) (h (ix1 6)) (h (ix1 7)) (h (ix1 8)) (h (ix1 9)) (h (ix1 10)) (h (ix1 11)) (h (ix1 12)) (h (ix1 13)) (h (ix1 14)) (h (ix1 15))

/-- A one-word load through a whole buffer that holds a history reads its word `k`. -/
theorem read_word {sig : RefSig} {κ : Kind} {sp : Space} (a : Memref sig κ sp ⟨1, ![16]⟩ .f32) (ha : a.IsWhole)
    (h : Hist F) (k : ℕ) (hk : k < 16) (sz : Fin 1 → ℕ) (hsz : sz 0 = 1) (inb) (x) :
    View.readAt (Elt F) a.view (Rect.unit (s := ⟨1, ![16]⟩) ![k] sz inb).toLoadRect (ha.unread (Val := Elt F) h) x
      = h (ix1 ⟨k, hk⟩) := by
  rw [View.readAt_eq_ld, ha.read_unread]
  refine congrArg h (funext fun a => Fin.ext ?_)
  obtain rfl : a = 0 := Subsingleton.elim _ _
  have hx : (x 0 : ℕ) < sz 0 := (x 0).isLt
  show k + 1 * (x 0 : ℕ) = k
  omega

/-- A history moved on by one word: its words 1 to 15, then the new one. -/
def shifted (h : Hist F) (new : F .f32) : Hist F :=
  fun j => if hj : (j 0).val < 15 then h (ix1 ⟨(j 0).val + 1, by omega⟩) else new

theorem shifted_word (h : Hist F) (new : F .f32) (j : (⟨1, ![16]⟩ : Shape).Idx) (k : ℕ) (hk : k < 16) (hj : (j 0).val + 1 = k) :
    h (ix1 ⟨k, hk⟩) = shifted h new j := by
  subst hj
  unfold shifted
  rw [dif_pos (by omega)]

theorem shifted_new (h : Hist F) (new : F .f32) (j : (⟨1, ![16]⟩ : Shape).Idx) (hj : (j 0).val = 15) :
    new = shifted h new j := by
  unfold shifted
  rw [dif_neg (by omega)]

/-- Moving a history on as the references write it. -/
theorem concatenate_eq_shifted (h : Hist F) (new : F .f32) (hs : (⟨1, ![16]⟩ : Shape).Slices ![1] ⟨1, ![15]⟩)
    (hc : Shape.Concatenates [⟨1, ![15]⟩, ⟨1, ![1]⟩] ⟨1, ![16]⟩ 0) :
    concatenate (⟨1, ![16]⟩ : Shape) 0 [⟨⟨1, ![15]⟩, extractStridedSlice ⟨1, ![15]⟩ ![1] h hs⟩, ⟨⟨1, ![1]⟩, broadcast ⟨1, ![1]⟩ new⟩] hc
      = shifted h new := by
  funext j
  rw [eq_ix1 j]
  unfold shifted
  pointwise
  simp only [Nat.add_comm 1]

end AnyFloats

/-! ## Maxima over the extended reals -/

/-- A maximum reduction over any axes, from minus infinity, is below `b` exactly when every element it runs over is. -/
theorem maximum_le_iff {s t : Shape} {axes : List (Fin s.rank)} {φ : FTy} (src : FVec Ideal s φ) (acc : BitVec φ.bits)
    (h : s.Reduces axes t) (hφ : FKind.Formats φ) (hacc : acc = FKind.maximumf.neutral φ hφ) (j : t.Idx)
    (hbot : (FloatOps.ofBits φ acc : Ideal φ) = (⊥ : EReal)) (b : EReal) :
    (multiReduction .maximumf axes t src acc h hφ hacc j : EReal) ≤ b ↔ ∀ i, h.drop i = j → (src i : EReal) ≤ b := by
  rw [multiReduction_maximumf_eq_fold, hbot]
  refine (Finset.fold_max_le (f := fun i => (src i : EReal)) (b := (⊥ : EReal)) b).trans ?_
  simp

/-- The f32 word of minus infinity denotes minus infinity. -/
theorem ofBits_bot_f32 : (FloatOps.ofBits .f32 0xFF800000#32 : Ideal .f32) = (⊥ : EReal) := by
  show Ideal.ofBits .f32 0xFF800000#32 = ⊥
  simp [Ideal.ofBits, Ideal.ieee]

/-- The bf16 word of minus infinity denotes minus infinity. -/
theorem ofBits_bot_bf16 : (FloatOps.ofBits .bf16 0xFF80#16 : Ideal .bf16) = (⊥ : EReal) := by
  show Ideal.ofBits .bf16 0xFF80#16 = ⊥
  simp [Ideal.ofBits, Ideal.ieee]

/-- A magnitude. -/
abbrev mag {φ : FTy} (x : Ideal φ) : EReal := FloatOps.absf x

/-- A maximum reduction of an array however reshaped: all its results are below `b` exactly when every element of the
    array is. -/
theorem all_le_iff {s s' t : Shape} {axes : List (Fin s'.rank)} {φ : FTy} (x : FVec Ideal s φ) (hs : s.ShapeCasts s')
    (acc : BitVec φ.bits) (h : s'.Reduces axes t) (hφ : FKind.Formats φ) (hacc : acc = FKind.maximumf.neutral φ hφ)
    (hbot : (FloatOps.ofBits φ acc : Ideal φ) = (⊥ : EReal)) (b : EReal) :
    (∀ j, (multiReduction .maximumf axes t (shapeCast s' x hs) acc h hφ hacc j : EReal) ≤ b) ↔ ∀ i, (x i : EReal) ≤ b := by
  simp only [maximum_le_iff _ _ _ _ _ _ hbot]
  constructor
  · intro H i
    have := H _ ((Shape.reshapeEquiv hs).symm i) rfl
    rwa [shapeCast, Equiv.apply_symm_apply] at this
  · intro H j i _
    exact H _

/-- A maximum reduction to one element, of an array however reshaped, bounds the whole array: the element read out is
    below `b` exactly when every element of the array is. -/
theorem whole_le_iff {s s' t : Shape} {axes : List (Fin s'.rank)} {φ : FTy} (x : FVec Ideal s φ) (hs : s.ShapeCasts s')
    (acc : BitVec φ.bits) (h : s'.Reduces axes t) (hφ : FKind.Formats φ) (hacc : acc = FKind.maximumf.neutral φ hφ)
    (hbot : (FloatOps.ofBits φ acc : Ideal φ) = (⊥ : EReal)) (hone : ∀ b, t.size b = 1) (j : t.Idx) (b : EReal) :
    (multiReduction .maximumf axes t (shapeCast s' x hs) acc h hφ hacc j : EReal) ≤ b ↔ ∀ i, (x i : EReal) ≤ b := by
  rw [maximum_le_iff _ _ _ _ _ _ hbot]
  constructor
  · intro H i
    have := H ((Shape.reshapeEquiv hs).symm i) (funext fun a => Fin.ext (by
      have := (h.drop ((Shape.reshapeEquiv hs).symm i) a).isLt; have := (j a).isLt; have := hone a; omega))
    rwa [shapeCast, Equiv.apply_symm_apply] at this
  · intro H i _
    exact H _

/-- The same of the element read out of that one-element result by way of another one-element shape. -/
theorem word_le_iff {s s' t t' : Shape} {axes : List (Fin s'.rank)} {φ : FTy} (x : FVec Ideal s φ) (hs : s.ShapeCasts s')
    (acc : BitVec φ.bits) (h : s'.Reduces axes t) (hφ : FKind.Formats φ) (hacc : acc = FKind.maximumf.neutral φ hφ)
    (hbot : (FloatOps.ofBits φ acc : Ideal φ) = (⊥ : EReal)) (hone : ∀ b, t.size b = 1) (ht : t.ShapeCasts t') (pos : Fin t'.rank → ℕ)
    (hp : ∀ a, pos a < t'.size a) (b : EReal) :
    (extractAt pos (shapeCast t' (multiReduction .maximumf axes t (shapeCast s' x hs) acc h hφ hacc) ht) hp : EReal) ≤ b ↔ ∀ i, (x i : EReal) ≤ b :=
  whole_le_iff x hs acc h hφ hacc hbot hone _ b

/-- The kernels' greatest word is below `b` exactly when every word is. -/
theorem greatest_le_iff (h : Hist Ideal) (b : EReal) : (greatest h : EReal) ≤ b ↔ ∀ i, (h i : EReal) ≤ b := by
  unfold greatest chain16
  simp only [Ideal.scalar_maximumf_def, max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ i
    rw [eq_ix1 i]
    generalize i 0 = k
    revert k
    refine Fin.cases h0 fun k => ?_
    fin_cases k <;> assumption
  · intro H
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;> exact H _

/-- Over the extended reals the two are one value. -/
theorem greatest_eq (h : Hist Ideal) (hs : (⟨1, ![16]⟩ : Shape).ShapeCasts ⟨2, ![1, 16]⟩)
    (hr : (⟨2, ![1, 16]⟩ : Shape).Reduces [1] ⟨1, ![1]⟩) (hφ : FKind.Formats .f32)
    (hacc : (0xFF800000#32 : BitVec 32) = FKind.maximumf.neutral .f32 hφ) (j : (⟨1, ![1]⟩ : Shape).Idx) :
    multiReduction .maximumf [1] ⟨1, ![1]⟩ (shapeCast ⟨2, ![1, 16]⟩ h hs) 0xFF800000#32 hr hφ hacc j = greatest h :=
  eq_of_forall_ge_iff fun b =>
    (whole_le_iff h hs _ hr hφ hacc ofBits_bot_f32 (by decide) j b).trans (greatest_le_iff h b).symm

/-- Running maxima that start at the first part and take each further part in stay below `b` exactly when all the
    parts up to now do. -/
theorem running_le_iff {α : Type} {N : ℕ} (run : (n : ℕ) → n < N → α → EReal) (part : Fin N → α → EReal) (P : Fin N → Prop) (b : EReal)
    (hstart : ∀ h j, run 0 h j = part ⟨0, h⟩ j)
    (hstep : ∀ n (h : n + 1 < N) j, run (n + 1) h j = max (run n (Nat.lt_of_succ_lt h) j) (part ⟨n + 1, h⟩ j))
    (hpart : ∀ t, (∀ j, part t j ≤ b) ↔ P t) : ∀ (n : ℕ) (h : n < N), (∀ j, run n h j ≤ b) ↔ ∀ t : Fin N, t.val ≤ n → P t
  | 0, h => by
      simp only [hstart, hpart]
      refine ⟨fun H t ht => ?_, fun H => H _ le_rfl⟩
      obtain rfl : t = ⟨0, h⟩ := Fin.ext (Nat.le_zero.mp ht)
      exact H
  | n + 1, h => by
      have ih := running_le_iff run part P b hstart hstep hpart n (Nat.lt_of_succ_lt h)
      simp only [hstep, max_le_iff, forall_and, ih, hpart]
      constructor
      · rintro ⟨H, H'⟩ t ht
        rcases Nat.lt_or_ge t.val (n + 1) with hlt | hge
        · exact H t (by omega)
        · obtain rfl : t = ⟨n + 1, h⟩ := Fin.ext (le_antisymm ht hge)
          exact H'
      · exact fun H => ⟨fun t ht => H t (by omega), H _ le_rfl⟩

end Cert.Fp8

end
-- ==== Proof.DwValue.lean ====
/-
  What the `dw` kernel leaves in its result array. The kernel walks 18 blocks of 1024 tokens; its one output block is
  the whole array, written at the first point, added into at every later point, and multiplied by the product of the
  two scales at the last point.
-/
module

public import proofs.«01_k».proof.Proof.Scale
public import proofs.«01_k».proof.Proof.Gen.DwIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
namespace Cert.DwIdeal.Value

open Cert.DwIdeal Cert.DwIdeal.Gen
variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The last point's rescaling, of the words read and the sum `s`. -/
theorem rescale (a0 a1 a2 a3 a4 a5 a6 a7 a8 a9 a10 a11 a12 a13 a14 a15 b0 b1 b2 b3 b4 b5 b6 b7 b8 b9 b10 b11 b12 b13 b14 b15 : F .f32) (s : Vec F S1536x6400 .f32) :
    k0_pay3 (k0_pay7 (k0_pay4 a0 a1 a2 a3 a4 a5 a6 a7 a8 a9 a10 a11 a12 a13 a14 a15) (k0_pay5 a0 a1 a2 a3 a4 a5 a6 a7 a8 a9 a10 a11 a12 a13 a14 a15)
        (Scalar.addi (Scalar.fptosi 32 (k0_pay6 a0 a1 a2 a3 a4 a5 a6 a7 a8 a9 a10 a11 a12 a13 a14 a15)) 1#32)
        (Scalar.cmpf .ogt (k0_pay5 a0 a1 a2 a3 a4 a5 a6 a7 a8 a9 a10 a11 a12 a13 a14 a15) (Scalar.ofBits .f32 0x00000000#32)))
      (k0_pay8 b0 b1 b2 b3 b4 b5 b6 b7 b8 b9 b10 b11 b12 b13 b14 b15) (k0_pay9 b0 b1 b2 b3 b4 b5 b6 b7 b8 b9 b10 b11 b12 b13 b14 b15) s
      = mulf s (broadcast S1536x6400 (Scalar.mulf (Fp8.scale 0x3B124925#32 (Fp8.chain16 a0 a1 a2 a3 a4 a5 a6 a7 a8 a9 a10 a11 a12 a13 a14 a15))
          (Fp8.scale 0x37924925#32 (Fp8.chain16 b0 b1 b2 b3 b4 b5 b6 b7 b8 b9 b10 b11 b12 b13 b14 b15)))) := by
  unfold k0_pay3
  rw [shapeCast_self]
  rfl

/-- What the last point leaves: the sum with its block's product added, times the product of the two scales. -/
theorem out_C (c : Dev nD) (i : grid0.Coords) (arg1 : Memref sig .tc .smem S16 .f32) (harg1 : arg1.IsWhole) (arg2 : Memref sig .tc .smem S16 .f32) (harg2 : arg2.IsWhole) (arg3 : Memref sig .tc .vmem S1x1024x1536 .fp8e4m3) (harg3 : arg3.IsWhole) (arg4 : Memref sig .tc .vmem S1x1024x6400 .fp8e5m2) (harg4 : arg4.IsWhole) (arg5 : Memref sig .tc .vmem S1536x6400 .f32) (harg5 : arg5.IsWhole) (hc0 : ¬cond0_0 i) (hc1 : cond0_1 i) (hx hdy : Vec F S16 .f32) (x : Vec F S1x1024x1536 .fp8e4m3) (dy : Vec F S1x1024x6400 .fp8e5m2) (o : Vec F S1536x6400 .f32) :
    out0_C_4 c i arg1 harg1 arg2 harg2 arg3 harg3 arg4 harg4 arg5 harg5 hc0 hc1 hx hdy x dy o = mulf (k0_pay2 o x dy) (broadcast S1536x6400 (Scalar.mulf (Fp8.scale 0x3B124925#32 (Fp8.greatest hx)) (Fp8.scale 0x37924925#32 (Fp8.greatest hdy)))) := by
  unfold out0_C_4
  rw [View.read_writes_eq_canon _ _ _ (cover0_C_4 c i arg1 harg1 arg2 harg2 arg3 harg3 arg4 harg4 arg5 harg5 hc0 hc1 hx hdy x dy o)]
  unfold kernelRun0_C
  dsimp only
  sl_unfold_words
  rw [View.canon_cons_unit_zero (S := S1536x6400) hz, View.readCov_unit_zero (S := S1536x6400) _ hz]
  simp (disch := decide) only [Fp8.read_word]
  simp only [View.readAt_eq_ld, harg3.read_unread, harg4.read_unread, harg5.read_unread,
    View.ld_unit_zero (S := S1536x6400) hz, View.ld_unit_zero (S := S1x1024x1536) hz3, View.ld_unit_zero (S := S1x1024x6400) hz3]
  exact rescale (F := F) _ _ _ _ _ _ _ _ _ _ _ _ _ _ _ _ _ _ _ _ _ _ _ _ _ _ _ _ _ _ _ _ _

/-- What the first point leaves: its block's product, added to zero. -/
theorem out_A (c : Dev nD) (i : grid0.Coords) (arg1 : Memref sig .tc .smem S16 .f32) (harg1 : arg1.IsWhole) (arg2 : Memref sig .tc .smem S16 .f32) (harg2 : arg2.IsWhole) (arg3 : Memref sig .tc .vmem S1x1024x1536 .fp8e4m3) (harg3 : arg3.IsWhole) (arg4 : Memref sig .tc .vmem S1x1024x6400 .fp8e5m2) (harg4 : arg4.IsWhole) (arg5 : Memref sig .tc .vmem S1536x6400 .f32) (harg5 : arg5.IsWhole) (hc0 : cond0_0 i) (hc1 : ¬cond0_1 i) (hx hdy : Vec F S16 .f32) (x : Vec F S1x1024x1536 .fp8e4m3) (dy : Vec F S1x1024x6400 .fp8e5m2) :
    out0_A_4 c i arg1 harg1 arg2 harg2 arg3 harg3 arg4 harg4 arg5 harg5 hc0 hc1 hx hdy x dy = k0_pay2 (k0_pay1 (F := F)) x dy := by
  frame_out

/-- What a middle point leaves: the sum with its block's product added. -/
theorem out_B (c : Dev nD) (i : grid0.Coords) (arg1 : Memref sig .tc .smem S16 .f32) (harg1 : arg1.IsWhole) (arg2 : Memref sig .tc .smem S16 .f32) (harg2 : arg2.IsWhole) (arg3 : Memref sig .tc .vmem S1x1024x1536 .fp8e4m3) (harg3 : arg3.IsWhole) (arg4 : Memref sig .tc .vmem S1x1024x6400 .fp8e5m2) (harg4 : arg4.IsWhole) (arg5 : Memref sig .tc .vmem S1536x6400 .f32) (harg5 : arg5.IsWhole) (hc0 : ¬cond0_0 i) (hc1 : ¬cond0_1 i) (hx hdy : Vec F S16 .f32) (x : Vec F S1x1024x1536 .fp8e4m3) (dy : Vec F S1x1024x6400 .fp8e5m2) (o : Vec F S1536x6400 .f32) :
    out0_B_4 c i arg1 harg1 arg2 harg2 arg3 harg3 arg4 harg4 arg5 harg5 hc0 hc1 hx hdy x dy o = k0_pay2 o x dy := by
  frame_out

/-- The last point. -/
abbrev last : Fin cfg0.N := ⟨17, by decide⟩

/-- The running sum after point `n`, before any rescaling. -/
def chain (c : Dev nD) : (n : ℕ) → n < cfg0.N → Vec F S1536x6400 .f32
  | 0, h => k0_pay2 (k0_pay1 (F := F)) (iblk m c 2 ⟨0, h⟩) (iblk m c 3 ⟨0, h⟩)
  | n + 1, h => k0_pay2 (chain c n (Nat.lt_of_succ_lt h)) (iblk m c 2 ⟨n + 1, h⟩) (iblk m c 3 ⟨n + 1, h⟩)

/-- Before the last point the output block holds the running sum. -/
theorem outsAt_eq (c : Dev nD) : ∀ (n : ℕ) (h : n < cfg0.N), n < 17 → outsAt0 m c n h = chain m c n h
  | 0, h, _ => (outsAt0_A m c ⟨0, h⟩ rfl (by show ¬0 % 18 = 17; decide)).trans (out_A ..)
  | n + 1, h, h17 => by
      have e := outsAt0_B m c ⟨n + 1, h⟩ (by show ¬(n + 1) % 18 = 0; omega) (by show ¬(n + 1) % 18 = 17; omega)
      refine e.trans ((out_B ..).trans ?_)
      show k0_pay2 (outsAt0 m c n _) _ _ = k0_pay2 (chain m c n _) _ _
      rw [outsAt_eq c n _ (by omega)]

/-- After the last point it holds the whole sum times the product of the two scales. -/
theorem outsAt_last (c : Dev nD) : outsAt0 m c last.val last.isLt = mulf (chain m c 17 last.isLt) (broadcast S1536x6400 (Scalar.mulf
    (Fp8.scale 0x3B124925#32 (Fp8.greatest (iblk m c 0 last))) (Fp8.scale 0x37924925#32 (Fp8.greatest (iblk m c 1 last))))) := by
  refine (outsAt0_C m c last (by decide) (by decide)).trans ((out_C ..).trans ?_)
  show mulf (k0_pay2 (outsAt0 m c 16 _) _ _) _ = mulf (k0_pay2 (chain m c 16 _) _ _) _
  rw [outsAt_eq m c 16 _ (by decide)]

/-- The result array: the whole sum times the product of the two scales. -/
def result (c : Dev nD) : Vec F S1536x6400 .f32 := mulf (chain m c 17 last.isLt) (broadcast S1536x6400 (Scalar.mulf
    (Fp8.scale 0x3B124925#32 (Fp8.greatest (iblk m c 0 last))) (Fp8.scale 0x37924925#32 (Fp8.greatest (iblk m c 1 last)))))

theorem final (c : Dev nD) : (dats m 0 c).arrAt 4 cfg0.N = result m c := by
  refine (dats m 0 c).arrAt_eq_of_after_last 4 last (by decide +kernel) _ fun j => ?_
  blk_simp
  rw [after0_4, outsAt_last]
  rfl

end Cert.DwIdeal.Value
end
-- ==== Proof.DwSum.lean ====
/-
  The `dw` kernel's running sum over the reals: after point `n` it is the sum of the products over the first
  `1024 * (n + 1)` tokens.
-/
module

public import proofs.«01_k».proof.Proof.DwValue

@[expose] public section

set_option maxRecDepth 16384

noncomputable section

open Idealize.ShloMosaic Idealize.ShloMosaic.TcCoe Idealize.SL.Sem
open Idealize.ShloMosaic.Pipeline (Dat)

namespace Cert.DwIdeal.Value

open Cert.DwIdeal Cert.DwIdeal.Gen
variable (m : (ℓ : Loc nD τ sig) → Buf (Elt Ideal) ℓ)

/-- One step of the running sum at an index. -/
theorem step_apply (o : Vec Ideal S1536x6400 .f32) (x : Vec Ideal S1x1024x1536 .fp8e4m3) (dy : Vec Ideal S1x1024x6400 .fp8e5m2) (d : Fin 1536) (k : Fin 6400) :
    k0_pay2 o x dy (ix2 d k) = o (ix2 d k) + ∑ r : Fin 1024, x (ix3 0 r d) * dy (ix3 0 r k) := by
  unfold k0_pay2
  pointwise

/-- Point `t` stages the tokens `1024 * t …` of batch row `t / 3`. -/
theorem idx : ∀ t : Fin cfg0.N, win0_0.index t = ![0] ∧ win0_1.index t = ![0] ∧ win0_2.index t = ![t.val / 3, t.val % 3, 0] ∧ win0_3.index t = ![t.val / 3, t.val % 3, 0] := by
  decide +kernel

theorem hist_x (c : Dev nD) (t : Fin cfg0.N) : iblk m c 0 t = m ((c : Thread nD τ).loc main_arg0) := by
  funext j
  blk_ext [iblk, V, idx t]

theorem hist_dy (c : Dev nD) (t : Fin cfg0.N) : iblk m c 1 t = m ((c : Thread nD τ).loc main_arg1) := by
  funext j
  blk_ext [iblk, V, idx t]

theorem block_x (c : Dev nD) (t : Fin cfg0.N) (r : Fin 1024) (d : Fin 1536) (q : Fin 18432) (hq : q.val = t.val * 1024 + r.val) :
    iblk m c 2 t (ix3 0 r d) = m ((c : Thread nD τ).loc main_arg2) (ix3 (⟨q.val / 3072, by omega⟩ : Fin 6) (⟨q.val % 3072, by omega⟩ : Fin 3072) d) := by
  blk_ext [iblk, V, idx t]

theorem block_dy (c : Dev nD) (t : Fin cfg0.N) (r : Fin 1024) (k : Fin 6400) (q : Fin 18432) (hq : q.val = t.val * 1024 + r.val) :
    iblk m c 3 t (ix3 0 r k) = m ((c : Thread nD τ).loc main_arg3) (ix3 (⟨q.val / 3072, by omega⟩ : Fin 6) (⟨q.val % 3072, by omega⟩ : Fin 3072) k) := by
  blk_ext [iblk, V, idx t]

/-- The product of token `q`'s codes `d` of `x` and `k` of `dy`. -/
def product (x : Vec Ideal S6x3072x1536 .fp8e4m3) (dy : Vec Ideal S6x3072x6400 .fp8e5m2) (d : Fin 1536) (k : Fin 6400) (q : Fin 18432) : EReal :=
  x (ix3 (⟨q.val / 3072, by omega⟩ : Fin 6) (⟨q.val % 3072, by omega⟩ : Fin 3072) d) * dy (ix3 (⟨q.val / 3072, by omega⟩ : Fin 6) (⟨q.val % 3072, by omega⟩ : Fin 3072) k)

/-- The same for any number `q`, zero where there is no such token. -/
def term (x : Vec Ideal S6x3072x1536 .fp8e4m3) (dy : Vec Ideal S6x3072x6400 .fp8e5m2) (d : Fin 1536) (k : Fin 6400) (q : ℕ) : EReal :=
  if h : q < 18432 then product x dy d k ⟨q, h⟩ else 0

/-- The blocks that point `t` stages, at their shapes. -/
abbrev blockX (c : Dev nD) (t : Fin cfg0.N) : Vec Ideal S1x1024x1536 .fp8e4m3 := iblk m c 2 t
abbrev blockDy (c : Dev nD) (t : Fin cfg0.N) : Vec Ideal S1x1024x6400 .fp8e5m2 := iblk m c 3 t

/-- Point `t` adds the products of its 1024 tokens. -/
theorem block_sum (c : Dev nD) (t : Fin cfg0.N) (d : Fin 1536) (k : Fin 6400) :
    ∑ r : Fin 1024, blockX m c t (ix3 0 r d) * blockDy m c t (ix3 0 r k)
      = ∑ r ∈ Finset.range 1024, term (m ((c : Thread nD τ).loc main_arg2)) (m ((c : Thread nD τ).loc main_arg3)) d k (t.val * 1024 + r) := by
  rw [Finset.sum_range]
  refine Finset.sum_congr rfl fun r _ => ?_
  have ht : t.val < 18 := lt_of_lt_of_eq t.isLt N_0
  have hq : t.val * 1024 + r.val < 18432 := by omega
  unfold term
  rw [dif_pos hq]
  exact congrArg₂ (· * · : EReal → EReal → EReal) (block_x m c t r d ⟨_, hq⟩ rfl) (block_dy m c t r k ⟨_, hq⟩ rfl)

/-- The running sum after point `n` is the sum over the first `1024 * (n + 1)` tokens. -/
theorem chain_apply (c : Dev nD) (d : Fin 1536) (k : Fin 6400) : ∀ (n : ℕ) (h : n < cfg0.N),
    chain m c n h (ix2 d k) = ∑ q ∈ Finset.range ((n + 1) * 1024), term (m ((c : Thread nD τ).loc main_arg2)) (m ((c : Thread nD τ).loc main_arg3)) d k q
  | 0, h => by
      have e := block_sum m c ⟨0, h⟩ d k
      simp only [Nat.zero_mul, Nat.zero_add] at e
      rw [chain, step_apply, e, Nat.zero_add, Nat.one_mul]
      unfold k0_pay1
      pointwise
  | n + 1, h => by
      rw [chain, step_apply, block_sum m c ⟨n + 1, h⟩ d k, chain_apply c d k n _, Nat.add_mul (n + 1) 1, Nat.one_mul, Finset.sum_range_add]

/-- The kernel's result at an index: the sum over all tokens, times the product of the two scales. -/
theorem result_apply (c : Dev nD) (d : Fin 1536) (k : Fin 6400) :
    result m c (ix2 d k) = (∑ q : Fin 18432, product (m ((c : Thread nD τ).loc main_arg2)) (m ((c : Thread nD τ).loc main_arg3)) d k q)
      * (Fp8.scale (F := Ideal) 0x3B124925#32 (Fp8.greatest (m ((c : Thread nD τ).loc main_arg0))) * Fp8.scale (F := Ideal) 0x37924925#32 (Fp8.greatest (m ((c : Thread nD τ).loc main_arg1)))) := by
  have e : ∑ q : Fin 18432, product (m ((c : Thread nD τ).loc main_arg2)) (m ((c : Thread nD τ).loc main_arg3)) d k q
      = ∑ q ∈ Finset.range ((17 + 1) * 1024), term (m ((c : Thread nD τ).loc main_arg2)) (m ((c : Thread nD τ).loc main_arg3)) d k q := by
    rw [Finset.sum_range]
    exact Finset.sum_congr rfl fun q _ => by unfold term; rw [dif_pos q.isLt]
  unfold result
  rw [hist_x, hist_dy, e, ← chain_apply m c d k 17 last.isLt]
  rfl

end Cert.DwIdeal.Value

end
-- ==== Proof.RefDwValue.lean ====
/-
  What the reference of `dw` computes: one product over all 18432 tokens, times the product of the two scales.
-/
module

public import proofs.«01_k».proof.Proof.Scale
public import proofs.«01_k».proof.Proof.Gen.RefDwIdeal.Value

@[expose] public section

set_option maxRecDepth 16384

noncomputable section

open Idealize.ShloMosaic Idealize.ShloMosaic.TcCoe Idealize.SL.Sem

namespace Cert.RefDwIdeal.Value

open Cert.RefDwIdeal Cert.RefDwIdeal.Gen

/-- The greatest word of a history, as the reference takes it. -/
theorem greatest_word (h : Vec Ideal S16 .f32) : k0_pay3 h = Fp8.greatest h := by
  unfold k0_pay3
  exact Fp8.greatest_eq h shapeCasts_S16_S1x16 reduces_S1x16_S1 (.inl rfl) rfl _

theorem scale_x (h : Vec Ideal S16 .f32) : k0_pay2 h = Fp8.scale (F := Ideal) 0x3B124925#32 (Fp8.greatest h) := by
  rw [← greatest_word]
  rfl

theorem G4_eq (hx hdy : Vec Ideal S16 .f32) (x : Vec Ideal S6x3072x1536 .fp8e4m3) (dy : Vec Ideal S6x3072x6400 .fp8e5m2) :
    G4 hx hdy x dy = mulf (matmul (φ₁ := .fp8e4m3) (φ₂ := .fp8e5m2) dot_S18432x1536_S18432x6400_S1536x6400_0_0_1_1_n_n none (shapeCast S18432x1536 x shapeCasts_S6x3072x1536_S18432x1536) (shapeCast S18432x6400 dy shapeCasts_S6x3072x6400_S18432x6400) (constant S1536x6400 .f32 0x00000000#32))
      (broadcast S1536x6400 (Scalar.mulf (Fp8.scale (F := Ideal) 0x3B124925#32 (Fp8.greatest hx)) (Fp8.scale (F := Ideal) 0x37924925#32 (Fp8.greatest hdy)))) := by
  rw [← scale_x, ← greatest_word hdy]
  rfl

theorem G4_apply (hx hdy : Vec Ideal S16 .f32) (x : Vec Ideal S6x3072x1536 .fp8e4m3) (dy : Vec Ideal S6x3072x6400 .fp8e5m2) (d : Fin 1536) (k : Fin 6400) :
    G4 hx hdy x dy (ix2 d k) = (∑ q : Fin 18432, x (ix3 (⟨q.val / 3072, by omega⟩ : Fin 6) (⟨q.val % 3072, by omega⟩ : Fin 3072) d) * dy (ix3 (⟨q.val / 3072, by omega⟩ : Fin 6) (⟨q.val % 3072, by omega⟩ : Fin 3072) k))
      * (Fp8.scale (F := Ideal) 0x3B124925#32 (Fp8.greatest hx) * Fp8.scale (F := Ideal) 0x37924925#32 (Fp8.greatest hdy)) := by
  rw [G4_eq]
  generalize Fp8.scale (F := Ideal) 0x3B124925#32 (Fp8.greatest hx) = a
  generalize Fp8.scale (F := Ideal) 0x37924925#32 (Fp8.greatest hdy) = b
  pointwise

end Cert.RefDwIdeal.Value

end
-- ==== Proof.DwClaim.lean ====
/-
  The `dw` kernel against its reference over the reals: both are one sum over the 18432 tokens times the product of
  the two scales.
-/
module

public import proofs.«01_k».proof.Defs
public import proofs.«01_k».proof.Proof.DwSum
public import proofs.«01_k».proof.Proof.RefDwValue

@[expose] public section

set_option maxRecDepth 16384

noncomputable section

open Idealize.ShloMosaic Idealize.ShloMosaic.TcCoe Idealize.SL.Sem

namespace Cert.Proof

/-- The two results are equal at every index. -/
theorem dw_eq (m : (ℓ : Loc Cert.DwIdeal.nD Cert.DwIdeal.τ Cert.DwIdeal.sig) → Buf (Elt Ideal) ℓ) (c : Dev Cert.DwIdeal.nD) :
    Cert.DwIdeal.Value.result m c = Cert.RefDwIdeal.Value.G4 (m ((c.tc : Thread Cert.DwIdeal.nD Cert.DwIdeal.τ).loc Cert.DwIdeal.main_arg0)) (m ((c.tc : Thread Cert.DwIdeal.nD Cert.DwIdeal.τ).loc Cert.DwIdeal.main_arg1))
      (m ((c.tc : Thread Cert.DwIdeal.nD Cert.DwIdeal.τ).loc Cert.DwIdeal.main_arg2)) (m ((c.tc : Thread Cert.DwIdeal.nD Cert.DwIdeal.τ).loc Cert.DwIdeal.main_arg3)) := by
  funext j
  rw [eq_ix2 j]
  exact (Cert.DwIdeal.Value.result_apply m c _ _).trans (Cert.RefDwIdeal.Value.G4_apply _ _ _ _ _ _).symm

theorem dw_algebraic : Cert.algebraic_DwIdeal_RefDwIdeal (hDwIdeal := Cert.DwIdeal.Gen.facts) (hRefDwIdeal := Cert.RefDwIdeal.Gen.facts) := by
  intro m g m' g' _ hagree
  refine ⟨fun c => Cert.DwIdeal.Value.result m c, ?_, ?_⟩
  · refine (θ_run _ _ _).mono (fun r h c => ?_) (Cert.DwIdeal.Value.run_blocks m g)
    exact ⟨(h c).1.trans (Cert.DwIdeal.Value.final m c), (h c).2⟩
  · refine (θ_run _ _ _).mono (fun r h c => ?_) (Cert.RefDwIdeal.Value.run m' g')
    refine ⟨(h c).1.trans ?_, (h c).2⟩
    obtain ⟨h0, h1, h2, h3⟩ := hagree c
    rw [h0, h1, h2, h3]
    exact (dw_eq m c).symm

end Cert.Proof

end
-- ==== Proof.QwValue.lean ====
/-
  What one grid point of the `quantise_w` kernel leaves: the codes of its 256 rows; the running column maxima of the
  magnitudes, folded over groups of 8 rows; and at the last point the scale and the history moved on by one word.
-/
module

public import proofs.«01_k».proof.Proof.Scale
public import proofs.«01_k».proof.Proof.Gen.QuantiseWIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QuantiseWIdeal.Value

open Cert.QuantiseWIdeal Cert.QuantiseWIdeal.Gen
variable {F : FTy → Type} [FloatOps F]

theorem hz : (![0, 0] : Fin 2 → Nat) = fun _ => 0 := funext fun a => by fin_cases a <;> rfl

/-- The codes of a block of weights under a history. -/
def encode (h : Vec F S16 .f32) (w : Vec F S256x6400 .f32) : Vec F S256x6400 .fp8e4m3 :=
  truncf .fp8e4m3 (minimumf (broadcast S256x6400 (Scalar.ofBits .f32 0x43E00000#32)) (maximumf (broadcast S256x6400 (Scalar.ofBits .f32 0xC3E00000#32)) (mulf w (broadcast S256x6400 (Fp8.inverse 0x3B124925#32 (Fp8.greatest h)))))) bitsLt_fp8e4m3_f32

/-- The codes, of the words read. -/
theorem encode_words (a0 a1 a2 a3 a4 a5 a6 a7 a8 a9 a10 a11 a12 a13 a14 a15 : F .f32) (w : Vec F S256x6400 .f32) :
    k0_pay2 (k0_pay7 a0 a1 a2 a3 a4 a5 a6 a7 a8 a9 a10 a11 a12 a13 a14 a15) (k0_pay8 a0 a1 a2 a3 a4 a5 a6 a7 a8 a9 a10 a11 a12 a13 a14 a15) (Scalar.addi (Scalar.fptosi 32 (k0_pay9 a0 a1 a2 a3 a4 a5 a6 a7 a8 a9 a10 a11 a12 a13 a14 a15)) 1#32) (FloatOps.ofBits .f32 0x00000000#32) w
      = truncf .fp8e4m3 (minimumf (broadcast S256x6400 (Scalar.ofBits .f32 0x43E00000#32)) (maximumf (broadcast S256x6400 (Scalar.ofBits .f32 0xC3E00000#32)) (mulf w (broadcast S256x6400 (Fp8.inverse 0x3B124925#32 (Fp8.chain16 a0 a1 a2 a3 a4 a5 a6 a7 a8 a9 a10 a11 a12 a13 a14 a15)))))) bitsLt_fp8e4m3_f32 := rfl

/-- The scale, of the words read. -/
theorem scale_words (a0 a1 a2 a3 a4 a5 a6 a7 a8 a9 a10 a11 a12 a13 a14 a15 : F .f32) :
    k0_pay1 (k0_pay7 a0 a1 a2 a3 a4 a5 a6 a7 a8 a9 a10 a11 a12 a13 a14 a15) (k0_pay8 a0 a1 a2 a3 a4 a5 a6 a7 a8 a9 a10 a11 a12 a13 a14 a15) (Scalar.addi (Scalar.fptosi 32 (k0_pay9 a0 a1 a2 a3 a4 a5 a6 a7 a8 a9 a10 a11 a12 a13 a14 a15)) 1#32) (FloatOps.ofBits .f32 0x00000000#32)
      = Fp8.scale 0x3B124925#32 (Fp8.chain16 a0 a1 a2 a3 a4 a5 a6 a7 a8 a9 a10 a11 a12 a13 a14 a15) := rfl

/-- The codes that the first point leaves. -/
theorem out_A_2 (c : Dev nD) (i : grid0.Coords) (arg1 : Memref sig .tc .smem S16 .f32) (harg1 : arg1.IsWhole) (arg2 : Memref sig .tc .vmem S256x6400 .f32) (harg2 : arg2.IsWhole) (arg3 : Memref sig .tc .vmem S256x6400 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x6400 .f32) (harg6 : arg6.IsWhole) (hc0 : cond0_0 i) (hc1 : ¬cond0_1 i) (hc2 : ¬cond0_2 i)
    (h : Vec F S16 .f32) (w : Vec F S256x6400 .f32) :
    out0_A_2 c i arg1 harg1 arg2 harg2 arg3 harg3 arg4 harg4 arg5 harg5 arg6 harg6 hc0 hc1 hc2 h w = encode h w := by
  frame_open
  simp (disch := decide) only [Fp8.read_word]
  frame_out
  exact encode_words (F := F) _ _ _ _ _ _ _ _ _ _ _ _ _ _ _ _ _

/-- The codes that the middle points leave. -/
theorem out_B_2 (c : Dev nD) (i : grid0.Coords) (arg1 : Memref sig .tc .smem S16 .f32) (harg1 : arg1.IsWhole) (arg2 : Memref sig .tc .vmem S256x6400 .f32) (harg2 : arg2.IsWhole) (arg3 : Memref sig .tc .vmem S256x6400 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x6400 .f32) (harg6 : arg6.IsWhole) (hc0 : ¬cond0_0 i) (hc1 : cond0_1 i) (hc2 : ¬cond0_2 i)
    (h : Vec F S16 .f32) (w : Vec F S256x6400 .f32) (s : Vec F S8x6400 .f32) :
    out0_B_2 c i arg1 harg1 arg2 harg2 arg3 harg3 arg4 harg4 arg5 harg5 arg6 harg6 hc0 hc1 hc2 h w s = encode h w := by
  frame_open
  simp (disch := decide) only [Fp8.read_word]
  frame_out
  exact encode_words (F := F) _ _ _ _ _ _ _ _ _ _ _ _ _ _ _ _ _

/-- The codes that the last point leaves. -/
theorem out_C_2 (c : Dev nD) (i : grid0.Coords) (arg1 : Memref sig .tc .smem S16 .f32) (harg1 : arg1.IsWhole) (arg2 : Memref sig .tc .vmem S256x6400 .f32) (harg2 : arg2.IsWhole) (arg3 : Memref sig .tc .vmem S256x6400 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x6400 .f32) (harg6 : arg6.IsWhole) (hc0 : ¬cond0_0 i) (hc1 : cond0_1 i) (hc2 : cond0_2 i)
    (h : Vec F S16 .f32) (w : Vec F S256x6400 .f32) (s : Vec F S8x6400 .f32) :
    out0_C_2 c i arg1 harg1 arg2 harg2 arg3 harg3 arg4 harg4 arg5 harg5 arg6 harg6 hc0 hc1 hc2 h w s = encode h w := by
  frame_open
  simp (disch := decide) only [Fp8.read_word]
  frame_out
  exact encode_words (F := F) _ _ _ _ _ _ _ _ _ _ _ _ _ _ _ _ _

/-- The first point starts the running maxima. -/
theorem sout_A (c : Dev nD) (i : grid0.Coords) (arg1 : Memref sig .tc .smem S16 .f32) (harg1 : arg1.IsWhole) (arg2 : Memref sig .tc .vmem S256x6400 .f32) (harg2 : arg2.IsWhole) (arg3 : Memref sig .tc .vmem S256x6400 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x6400 .f32) (harg6 : arg6.IsWhole) (hc0 : cond0_0 i) (hc1 : ¬cond0_1 i) (hc2 : ¬cond0_2 i)
    (h : Vec F S16 .f32) (w : Vec F S256x6400 .f32) :
    sout0_A_0 c i arg1 harg1 arg2 harg2 arg3 harg3 arg4 harg4 arg5 harg5 arg6 harg6 hc0 hc1 hc2 h w = k0_pay4 w := by
  frame_out

/-- A middle point takes its rows into the running maxima. -/
theorem sout_B (c : Dev nD) (i : grid0.Coords) (arg1 : Memref sig .tc .smem S16 .f32) (harg1 : arg1.IsWhole) (arg2 : Memref sig .tc .vmem S256x6400 .f32) (harg2 : arg2.IsWhole) (arg3 : Memref sig .tc .vmem S256x6400 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x6400 .f32) (harg6 : arg6.IsWhole) (hc0 : ¬cond0_0 i) (hc1 : cond0_1 i) (hc2 : ¬cond0_2 i)
    (h : Vec F S16 .f32) (w : Vec F S256x6400 .f32) (s : Vec F S8x6400 .f32) :
    sout0_B_0 c i arg1 harg1 arg2 harg2 arg3 harg3 arg4 harg4 arg5 harg5 arg6 harg6 hc0 hc1 hc2 h w s = k0_pay5 w s := by
  frame_out

/-- So does the last point. -/
theorem sout_C (c : Dev nD) (i : grid0.Coords) (arg1 : Memref sig .tc .smem S16 .f32) (harg1 : arg1.IsWhole) (arg2 : Memref sig .tc .vmem S256x6400 .f32) (harg2 : arg2.IsWhole) (arg3 : Memref sig .tc .vmem S256x6400 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x6400 .f32) (harg6 : arg6.IsWhole) (hc0 : ¬cond0_0 i) (hc1 : cond0_1 i) (hc2 : cond0_2 i)
    (h : Vec F S16 .f32) (w : Vec F S256x6400 .f32) (s : Vec F S8x6400 .f32) :
    sout0_C_0 c i arg1 harg1 arg2 harg2 arg3 harg3 arg4 harg4 arg5 harg5 arg6 harg6 hc0 hc1 hc2 h w s = k0_pay5 w s := by
  frame_out

/-- The scale that the last point leaves. -/
theorem out_C_3 (c : Dev nD) (i : grid0.Coords) (arg1 : Memref sig .tc .smem S16 .f32) (harg1 : arg1.IsWhole) (arg2 : Memref sig .tc .vmem S256x6400 .f32) (harg2 : arg2.IsWhole) (arg3 : Memref sig .tc .vmem S256x6400 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x6400 .f32) (harg6 : arg6.IsWhole) (hc0 : ¬cond0_0 i) (hc1 : cond0_1 i) (hc2 : cond0_2 i)
    (h : Vec F S16 .f32) (w : Vec F S256x6400 .f32) (s : Vec F S8x6400 .f32) :
    out0_C_3 c i arg1 harg1 arg2 harg2 arg3 harg3 arg4 harg4 arg5 harg5 arg6 harg6 hc0 hc1 hc2 h w s = fun _ => Fp8.scale 0x3B124925#32 (Fp8.greatest h) := by
  frame_open
  simp (disch := decide) only [Fp8.read_word]
  frame_out
  funext j
  exact scale_words (F := F) _ _ _ _ _ _ _ _ _ _ _ _ _ _ _ _

/-- The history that the last point leaves. -/
theorem out_C_4 (c : Dev nD) (i : grid0.Coords) (arg1 : Memref sig .tc .smem S16 .f32) (harg1 : arg1.IsWhole) (arg2 : Memref sig .tc .vmem S256x6400 .f32) (harg2 : arg2.IsWhole) (arg3 : Memref sig .tc .vmem S256x6400 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x6400 .f32) (harg6 : arg6.IsWhole) (hc0 : ¬cond0_0 i) (hc1 : cond0_1 i) (hc2 : cond0_2 i)
    (h : Vec F S16 .f32) (w : Vec F S256x6400 .f32) (s : Vec F S8x6400 .f32) :
    out0_C_4 c i arg1 harg1 arg2 harg2 arg3 harg3 arg4 harg4 arg5 harg5 arg6 harg6 hc0 hc1 hc2 h w s = Fp8.shifted h (k0_pay6 (k0_pay5 w s)) := by
  frame_open
  simp (disch := decide) only [Fp8.read_word]
  frame_out
  funext j
  canon_tiles x h
  · refine Fp8.shifted_new h _ j ?_; omega
  all_goals (refine Fp8.shifted_word h _ j _ _ ?_; omega)

end Cert.QuantiseWIdeal.Value

end
-- ==== Proof.QwFinal.lean ====
/-
  What the `quantise_w` kernel leaves in its three result arrays.
-/
module

public import proofs.«01_k».proof.Proof.QwValue

@[expose] public section

set_option maxRecDepth 16384

noncomputable section

open Idealize.ShloMosaic Idealize.ShloMosaic.TcCoe Idealize.SL.Sem
open Idealize.ShloMosaic.Pipeline (Dat)

namespace Cert.QuantiseWIdeal.Value

open Cert.QuantiseWIdeal Cert.QuantiseWIdeal.Gen

section AnyFloats

variable {F : FTy → Type} [FloatOps F]
variable (m : (ℓ : Loc nD τ sig) → Buf (Elt F) ℓ)

/-- The last point. -/
abbrev last : Fin cfg0.N := ⟨5, by decide⟩

/-- The running maxima after point `n`. -/
def running (c : Dev nD) : (n : ℕ) → n < cfg0.N → Vec F S8x6400 .f32
  | 0, h => k0_pay4 (iblk m c 1 ⟨0, h⟩)
  | n + 1, h => k0_pay5 (iblk m c 1 ⟨n + 1, h⟩) (running c n (Nat.lt_of_succ_lt h))

/-- Point `t` leaves the codes of its block. -/
theorem outs_codes (c : Dev nD) (t : Fin cfg0.N) : (outsAt0 m c t.val t.isLt).1 = encode (iblk m c 0 t) (iblk m c 1 t) := by
  have hN : t.val < 6 := lt_of_lt_of_eq t.isLt N_0
  by_cases h0 : t.val % 6 = 0
  · rw [outsAt0_A m c t h0 (by omega) (by omega)]
    dsimp only
    rw [out_A_2]
  · by_cases h2 : t.val % 6 = 5
    · rw [outsAt0_C m c t h0 (by omega) h2]
      dsimp only
      rw [out_C_2]
    · rw [outsAt0_B m c t h0 (by omega) h2]
      dsimp only
      rw [out_B_2]

/-- The scratch holds the running maxima. -/
theorem outs_running (c : Dev nD) : ∀ (n : ℕ) (h : n < cfg0.N), (outsAt0 m c n h).2.2.2 = running m c n h
  | 0, h => by
      have e := outsAt0_A m c ⟨0, h⟩ rfl (by show ¬1 ≤ 0; decide) (by show ¬0 % 6 = 5; decide)
      rw [show outsAt0 m c 0 h = _ from e]
      dsimp only
      rw [sout_A]
      rfl
  | n + 1, h => by
      have hN : n + 1 < 6 := lt_of_lt_of_eq h N_0
      have ih := outs_running c n (Nat.lt_of_succ_lt h)
      by_cases h2 : (n + 1) % 6 = 5
      · have e := outsAt0_C m c ⟨n + 1, h⟩ (by show ¬(n + 1) % 6 = 0; omega) (by show 1 ≤ n + 1; omega) h2
        rw [show outsAt0 m c (n + 1) h = _ from e]
        dsimp only
        rw [sout_C]
        exact congrArg (k0_pay5 (iblk m c 1 ⟨n + 1, h⟩)) ih
      · have e := outsAt0_B m c ⟨n + 1, h⟩ (by show ¬(n + 1) % 6 = 0; omega) (by show 1 ≤ n + 1; omega) h2
        rw [show outsAt0 m c (n + 1) h = _ from e]
        dsimp only
        rw [sout_B]
        exact congrArg (k0_pay5 (iblk m c 1 ⟨n + 1, h⟩)) ih

/-- The last point leaves the scale and the history moved on by the greatest of the running maxima. -/
theorem outs_scale (c : Dev nD) : (outsAt0 m c last.val last.isLt).2.1 = fun _ => Fp8.scale 0x3B124925#32 (Fp8.greatest (iblk m c 0 last)) := by
  rw [outsAt0_C m c last (by decide) (by decide) (by decide)]
  dsimp only
  rw [out_C_3]

theorem outs_hist (c : Dev nD) : (outsAt0 m c last.val last.isLt).2.2.1 = Fp8.shifted (iblk m c 0 last) (k0_pay6 (running m c 5 last.isLt)) := by
  rw [outsAt0_C m c last (by decide) (by decide) (by decide)]
  dsimp only
  rw [out_C_4]
  exact congrArg (fun s => Fp8.shifted (iblk m c 0 last) (k0_pay6 (k0_pay5 (iblk m c 1 last) s))) (outs_running m c 4 _)

theorem idx : ∀ t : Fin cfg0.N, win0_0.index t = ![0] ∧ win0_1.index t = ![t.val, 0] ∧ win0_2.index t = ![t.val, 0] ∧ win0_3.index t = ![0] ∧ win0_4.index t = ![0] := by
  decide +kernel

theorem hist (c : Dev nD) (t : Fin cfg0.N) : iblk m c 0 t = m ((c : Thread nD τ).loc main_arg0) := by
  funext j
  blk_ext [iblk, V, idx t]

/-- The codes of the whole array under a history. -/
def codes (h : Vec F S16 .f32) (w : Vec F S1536x6400 .f32) : Vec F S1536x6400 .fp8e4m3 :=
  truncf .fp8e4m3 (φ := .f32) (minimumf (broadcast S1536x6400 (Scalar.ofBits .f32 0x43E00000#32)) (maximumf (broadcast S1536x6400 (Scalar.ofBits .f32 0xC3E00000#32)) (mulf w (broadcast S1536x6400 (Fp8.inverse 0x3B124925#32 (Fp8.greatest h)))))) bitsLt_fp8e4m3_f32

/-- A block's codes are the whole array's codes there. -/
theorem encode_apply (h : Vec F S16 .f32) (w : Vec F S256x6400 .f32) (W : Vec F S1536x6400 .f32) (y : S256x6400.Idx) (i : S1536x6400.Idx)
    (e : w y = W i) : encode h w y = codes h W i := by
  simp only [encode, codes, truncf, minimumf, maximumf, mulf, broadcast, e]

theorem final_codes (c : Dev nD) : (dats m 0 c).arrAt 2 cfg0.N = codes (m ((c : Thread nD τ).loc main_arg0)) (m ((c : Thread nD τ).loc main_arg1)) := by
  refine (dats m 0 c).arrAt_eq_of_covers 2 _ (by decide +kernel) fun t hf y => ?_
  blk_simp
  rw [after0_2, outs_codes, hist]
  refine encode_apply _ _ _ _ _ ?_
  blk_ext [iblk, V, idx t]

theorem final_scale (c : Dev nD) : (dats m 0 c).arrAt 3 cfg0.N = fun _ => Fp8.scale 0x3B124925#32 (Fp8.greatest (m ((c : Thread nD τ).loc main_arg0))) := by
  refine (dats m 0 c).arrAt_eq_of_after_last 3 last (by decide +kernel) _ fun j => ?_
  blk_simp
  rw [after0_3, outs_scale, hist]

theorem final_hist (c : Dev nD) : (dats m 0 c).arrAt 4 cfg0.N = Fp8.shifted (m ((c : Thread nD τ).loc main_arg0)) (k0_pay6 (running m c 5 last.isLt)) := by
  refine (dats m 0 c).arrAt_eq_of_after_last 4 last (by decide +kernel) _ fun j => ?_
  blk_simp
  rw [after0_4, outs_hist, hist]

end AnyFloats

/-! ## The greatest magnitude, over the reals -/

variable (m : (ℓ : Loc nD τ sig) → Buf (Elt Ideal) ℓ)

/-- All of a block's folded maxima are below `b` exactly when every magnitude of the block is. -/
theorem part_le_iff (w : Vec Ideal S256x6400 .f32) (b : EReal) : (∀ j, (k0_pay3 w j : EReal) ≤ b) ↔ ∀ i, Fp8.mag (φ := .f32) (w i) ≤ b :=
  Fp8.all_le_iff (absf (F := Ideal) (φ := .f32) w) shapeCasts_S256x6400_S32x8x6400 _ reduces_S32x8x6400_S8x6400 (.inl rfl) rfl Fp8.ofBits_bot_f32 b

theorem start_eq (w : Vec Ideal S256x6400 .f32) : k0_pay4 w = k0_pay3 w := by
  unfold k0_pay4
  dsimp only
  rw [shapeCast_self]

theorem step_eq (w : Vec Ideal S256x6400 .f32) (s : Vec Ideal S8x6400 .f32) : k0_pay5 w s = fun j => max (s j : EReal) (k0_pay3 w j) := by
  unfold k0_pay5
  dsimp only
  rw [shapeCast_self]
  rfl

/-- The same for the running maxima after point `n` and the blocks up to it. -/
theorem running_le_iff (c : Dev nD) (b : EReal) (n : ℕ) (h : n < cfg0.N) :
    (∀ j, (running m c n h j : EReal) ≤ b) ↔ ∀ t : Fin cfg0.N, t.val ≤ n → ∀ i, Fp8.mag (φ := .f32) (iblk m c 1 t i) ≤ b :=
  Fp8.running_le_iff (running m c) (fun t => k0_pay3 (iblk m c 1 t)) _ b (fun _ => congrFun (start_eq _)) (fun _ _ => congrFun (step_eq _ _)) (fun _ => part_le_iff _ b) n h

/-- The element that the last point reads out. -/
theorem word_le_iff (s : Vec Ideal S8x6400 .f32) (b : EReal) : (k0_pay6 s : EReal) ≤ b ↔ ∀ j, (s j : EReal) ≤ b := by
  unfold k0_pay6
  exact Fp8.word_le_iff (φ := .f32) s shapeCasts_S8x6400_S1x8x6400 _ reduces_S1x8x6400_S1 (.inl rfl) rfl Fp8.ofBits_bot_f32 (by decide) shapeCasts_S1_S1x1x1 _ inpos_S1x1x1_p0_0_0 b

/-- The new history word is below `b` exactly when every magnitude of the array is. -/
theorem amax_le_iff (c : Dev nD) (b : EReal) : (k0_pay6 (running m c 5 last.isLt) : EReal) ≤ b
    ↔ ∀ i, Fp8.mag (φ := .f32) (m ((c : Thread nD τ).loc main_arg1) i) ≤ b := by
  refine (word_le_iff _ b).trans ?_
  refine (running_le_iff m c b 5 last.isLt).trans ?_
  constructor
  · intro H i
    have hi : (i 0).val < 1536 := (i 0).isLt
    have e : iblk m c 1 ⟨(i 0).val / 256, lt_of_lt_of_eq (by omega : _ < 6) N_0.symm⟩ (ix2 (⟨(i 0).val % 256, by omega⟩ : Fin 256) (⟨(i 1).val, (i 1).isLt⟩ : Fin 6400)) = m ((c : Thread nD τ).loc main_arg1) i := by
      blk_ext [iblk, V, idx ⟨(i 0).val / 256, lt_of_lt_of_eq (by omega : _ < 6) N_0.symm⟩]
    have := H ⟨(i 0).val / 256, lt_of_lt_of_eq (by omega : _ < 6) N_0.symm⟩ (by show (i 0).val / 256 ≤ 5; omega) (ix2 (⟨(i 0).val % 256, by omega⟩ : Fin 256) (⟨(i 1).val, (i 1).isLt⟩ : Fin 6400))
    rwa [e] at this
  · intro H t _ i
    have hi : (i 0).val < 256 := (i 0).isLt
    have ht : t.val < 6 := lt_of_lt_of_eq t.isLt N_0
    have e : iblk m c 1 t i = m ((c : Thread nD τ).loc main_arg1) (ix2 (⟨t.val * 256 + (i 0).val, by omega⟩ : Fin 1536) (⟨(i 1).val, (i 1).isLt⟩ : Fin 6400)) := by
      blk_ext [iblk, V, idx t]
    have := H (ix2 (⟨t.val * 256 + (i 0).val, by omega⟩ : Fin 1536) (⟨(i 1).val, (i 1).isLt⟩ : Fin 6400))
    rwa [e]

end Cert.QuantiseWIdeal.Value

end
-- ==== Proof.RefQwValue.lean ====
/-
  What the reference of `quantise_w` leaves: the codes of the whole array, the scale, and the history moved on by the
  greatest magnitude of the array.
-/
module

public import proofs.«01_k».proof.Proof.Scale
public import proofs.«01_k».proof.Proof.Gen.RefQuantiseWIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RefQuantiseWIdeal.Value

open Cert.RefQuantiseWIdeal Cert.RefQuantiseWIdeal.Gen

section AnyFloats

variable {F : FTy → Type} [FloatOps F]

/-! ## The values of the three stores -/

theorem out_2 (c : Dev nD) (arg0 : Memref sig .tc .vmem S16 .f32) (harg0 : arg0.IsWhole) (arg1 : Memref sig .tc .vmem S1536x6400 .f32) (harg1 : arg1.IsWhole) (arg2 : Memref sig .tc .vmem S1536x6400 .fp8e4m3) (harg2 : arg2.IsWhole) (arg3 : Memref sig .tc .smem S1 .f32) (harg3 : arg3.IsWhole) (arg4 : Memref sig .tc .vmem S16 .f32) (harg4 : arg4.IsWhole)
    (h : Vec F S16 .f32) (w : Vec F S1536x6400 .f32) :
    out0_A_2 c arg0 harg0 arg1 harg1 arg2 harg2 arg3 harg3 arg4 harg4 h w = k0_pay3 w h := by
  frame_out

theorem out_3 (c : Dev nD) (arg0 : Memref sig .tc .vmem S16 .f32) (harg0 : arg0.IsWhole) (arg1 : Memref sig .tc .vmem S1536x6400 .f32) (harg1 : arg1.IsWhole) (arg2 : Memref sig .tc .vmem S1536x6400 .fp8e4m3) (harg2 : arg2.IsWhole) (arg3 : Memref sig .tc .smem S1 .f32) (harg3 : arg3.IsWhole) (arg4 : Memref sig .tc .vmem S16 .f32) (harg4 : arg4.IsWhole)
    (h : Vec F S16 .f32) (w : Vec F S1536x6400 .f32) :
    out0_A_3 c arg0 harg0 arg1 harg1 arg2 harg2 arg3 harg3 arg4 harg4 h w = fun _ => k0_pay2 h := by
  frame_out
  rfl

theorem out_4 (c : Dev nD) (arg0 : Memref sig .tc .vmem S16 .f32) (harg0 : arg0.IsWhole) (arg1 : Memref sig .tc .vmem S1536x6400 .f32) (harg1 : arg1.IsWhole) (arg2 : Memref sig .tc .vmem S1536x6400 .fp8e4m3) (harg2 : arg2.IsWhole) (arg3 : Memref sig .tc .smem S1 .f32) (harg3 : arg3.IsWhole) (arg4 : Memref sig .tc .vmem S16 .f32) (harg4 : arg4.IsWhole)
    (h : Vec F S16 .f32) (w : Vec F S1536x6400 .f32) :
    out0_A_4 c arg0 harg0 arg1 harg1 arg2 harg2 arg3 harg3 arg4 harg4 h w = k0_pay1 w h := by
  frame_out

variable (m : (ℓ : Loc nD τ sig) → Buf (Elt F) ℓ)

/-! ## The arrays -/

theorem idx : ∀ t : Fin cfg0.N, win0_0.index t = ![0] ∧ win0_1.index t = ![0, 0] ∧ win0_2.index t = ![0, 0] ∧ win0_3.index t = ![0] ∧ win0_4.index t = ![0] := by
  decide +kernel

theorem hist (c : Dev nD) (t : Fin cfg0.N) : iblk m c 0 t = m ((c : Thread nD τ).loc main_arg0) := by
  funext j
  blk_ext [iblk, V, idx t]

theorem weights (c : Dev nD) (t : Fin cfg0.N) : iblk m c 1 t = m ((c : Thread nD τ).loc main_arg1) := by
  funext j
  blk_ext [iblk, V, idx t]

/-- The one point. -/
abbrev point : Fin cfg0.N := ⟨0, by decide⟩

theorem outs_codes (c : Dev nD) : (outsAt0 m c point).1 = k0_pay3 (m ((c : Thread nD τ).loc main_arg1)) (m ((c : Thread nD τ).loc main_arg0)) := by
  unfold outsAt0
  dsimp only
  rw [out_2, hist, weights]

theorem outs_scale (c : Dev nD) : (outsAt0 m c point).2.1 = fun _ => k0_pay2 (m ((c : Thread nD τ).loc main_arg0)) := by
  unfold outsAt0
  dsimp only
  rw [out_3, hist]

theorem outs_hist (c : Dev nD) : (outsAt0 m c point).2.2 = k0_pay1 (m ((c : Thread nD τ).loc main_arg1)) (m ((c : Thread nD τ).loc main_arg0)) := by
  unfold outsAt0
  dsimp only
  rw [out_4, hist, weights]

theorem final_codes (c : Dev nD) : (dats m 0 c).arrAt 2 cfg0.N = k0_pay3 (m ((c : Thread nD τ).loc main_arg1)) (m ((c : Thread nD τ).loc main_arg0)) := by
  refine (dats m 0 c).arrAt_eq_of_after_last 2 point (by decide +kernel) _ fun j => ?_
  blk_simp
  rw [after0_2, outs_codes]

theorem final_scale (c : Dev nD) : (dats m 0 c).arrAt 3 cfg0.N = fun _ => k0_pay2 (m ((c : Thread nD τ).loc main_arg0)) := by
  refine (dats m 0 c).arrAt_eq_of_after_last 3 point (by decide +kernel) _ fun j => ?_
  blk_simp
  rw [after0_3, outs_scale]

theorem final_hist (c : Dev nD) : (dats m 0 c).arrAt 4 cfg0.N = k0_pay1 (m ((c : Thread nD τ).loc main_arg1)) (m ((c : Thread nD τ).loc main_arg0)) := by
  refine (dats m 0 c).arrAt_eq_of_after_last 4 point (by decide +kernel) _ fun j => ?_
  blk_simp
  rw [after0_4, outs_hist]

end AnyFloats

/-! ## Over the reals -/

/-- The greatest word of a history, as the reference takes it. -/
def greatest (h : Vec Ideal S16 .f32) : Ideal .f32 :=
  extractAt ![0, 0] (shapeCast S1x1 (multiReduction .maximumf [1] S1 (shapeCast S1x16 h shapeCasts_S16_S1x16) 0xFF800000#32 reduces_S1x16_S1 (.inl rfl) rfl) shapeCasts_S1_S1x1) inpos_S1x1_p0_0

theorem greatest_eq (h : Vec Ideal S16 .f32) : greatest h = Fp8.greatest h :=
  Fp8.greatest_eq h shapeCasts_S16_S1x16 reduces_S1x16_S1 (.inl rfl) rfl _

theorem scale_eq (h : Vec Ideal S16 .f32) : k0_pay2 h = Fp8.scale (F := Ideal) 0x3B124925#32 (Fp8.greatest h) := by
  rw [← greatest_eq]
  rfl

theorem codes_eq (w : Vec Ideal S1536x6400 .f32) (h : Vec Ideal S16 .f32) :
    k0_pay3 w h = truncf .fp8e4m3 (φ := .f32) (minimumf (broadcast S1536x6400 (Scalar.ofBits .f32 0x43E00000#32)) (maximumf (broadcast S1536x6400 (Scalar.ofBits .f32 0xC3E00000#32)) (mulf w (broadcast S1536x6400 (Fp8.inverse (F := Ideal) 0x3B124925#32 (Fp8.greatest h)))))) bitsLt_fp8e4m3_f32 := by
  rw [← greatest_eq]
  rfl

/-- The greatest magnitude of the array. -/
def amax (w : Vec Ideal S1536x6400 .f32) : Ideal .f32 :=
  extractAt ![0, 0, 0] (shapeCast S1x1x1 (multiReduction .maximumf [1, 2] S1 (shapeCast S1x1536x6400 (absf w) shapeCasts_S1536x6400_S1x1536x6400) 0xFF800000#32 reduces_S1x1536x6400_S1 (.inl rfl) rfl) shapeCasts_S1_S1x1x1) inpos_S1x1x1_p0_0_0

theorem amax_le_iff (w : Vec Ideal S1536x6400 .f32) (b : EReal) : (amax w : EReal) ≤ b ↔ ∀ i, Fp8.mag (φ := .f32) (w i) ≤ b :=
  Fp8.word_le_iff (absf (F := Ideal) (φ := .f32) w) shapeCasts_S1536x6400_S1x1536x6400 _ reduces_S1x1536x6400_S1 (.inl rfl) rfl Fp8.ofBits_bot_f32 (by decide) shapeCasts_S1_S1x1x1 _ inpos_S1x1x1_p0_0_0 b

theorem hist_eq (w : Vec Ideal S1536x6400 .f32) (h : Vec Ideal S16 .f32) : k0_pay1 w h = Fp8.shifted h (amax w) := by
  unfold k0_pay1
  exact Fp8.concatenate_eq_shifted h (amax w) slices_S16_o1_S15 concatenates_S15_S1_S16_d0

end Cert.RefQuantiseWIdeal.Value

end
-- ==== Proof.QwClaim.lean ====
/-
  The `quantise_w` kernel against its reference over the reals: the same codes and scale, and the same new history,
  since the running maxima and the single reduction have the same upper bounds.
-/
module

public import proofs.«01_k».proof.Defs
public import proofs.«01_k».proof.Proof.QwFinal
public import proofs.«01_k».proof.Proof.RefQwValue

@[expose] public section

set_option maxRecDepth 16384

noncomputable section

open Idealize.ShloMosaic Idealize.ShloMosaic.TcCoe Idealize.SL.Sem

namespace Cert.Proof

/-- The greatest magnitudes are equal. -/
theorem qw_amax_eq (m : (ℓ : Loc Cert.QuantiseWIdeal.nD Cert.QuantiseWIdeal.τ Cert.QuantiseWIdeal.sig) → Buf (Elt Ideal) ℓ) (c : Dev Cert.QuantiseWIdeal.nD) :
    Cert.QuantiseWIdeal.Gen.k0_pay6 (Cert.QuantiseWIdeal.Value.running m c 5 Cert.QuantiseWIdeal.Value.last.isLt)
      = Cert.RefQuantiseWIdeal.Value.amax (m ((c.tc : Thread Cert.QuantiseWIdeal.nD Cert.QuantiseWIdeal.τ).loc Cert.QuantiseWIdeal.main_arg1)) :=
  eq_of_forall_ge_iff fun b =>
    (Cert.QuantiseWIdeal.Value.amax_le_iff m c b).trans (Cert.RefQuantiseWIdeal.Value.amax_le_iff _ b).symm

theorem qw_algebraic : Cert.algebraic_QuantiseWIdeal_RefQuantiseWIdeal (hQuantiseWIdeal := Cert.QuantiseWIdeal.Gen.facts) (hRefQuantiseWIdeal := Cert.RefQuantiseWIdeal.Gen.facts) := by
  intro m g m' g' _ hagree
  refine ⟨fun c => Cert.QuantiseWIdeal.Value.codes (m ((c.tc : Thread Cert.QuantiseWIdeal.nD Cert.QuantiseWIdeal.τ).loc Cert.QuantiseWIdeal.main_arg0)) (m ((c.tc : Thread Cert.QuantiseWIdeal.nD Cert.QuantiseWIdeal.τ).loc Cert.QuantiseWIdeal.main_arg1)),
    fun c _ => Fp8.scale (F := Ideal) 0x3B124925#32 (Fp8.greatest (m ((c.tc : Thread Cert.QuantiseWIdeal.nD Cert.QuantiseWIdeal.τ).loc Cert.QuantiseWIdeal.main_arg0))),
    fun c => Fp8.shifted (m ((c.tc : Thread Cert.QuantiseWIdeal.nD Cert.QuantiseWIdeal.τ).loc Cert.QuantiseWIdeal.main_arg0)) (Cert.QuantiseWIdeal.Gen.k0_pay6 (Cert.QuantiseWIdeal.Value.running m c 5 Cert.QuantiseWIdeal.Value.last.isLt)), ?_, ?_⟩
  · refine (θ_run _ _ _).mono (fun r h c => ?_) (Cert.QuantiseWIdeal.Value.run_blocks m g)
    obtain ⟨k0, k1, k2, ks⟩ := h c
    exact ⟨k0.trans (Cert.QuantiseWIdeal.Value.final_codes m c), k1.trans (Cert.QuantiseWIdeal.Value.final_scale m c), k2.trans (Cert.QuantiseWIdeal.Value.final_hist m c), ks⟩
  · refine (θ_run _ _ _).mono (fun r h c => ?_) (Cert.RefQuantiseWIdeal.Value.run_blocks m' g')
    obtain ⟨k0, k1, k2, ks⟩ := h c
    obtain ⟨h0, h1⟩ := hagree c
    refine ⟨k0.trans ?_, k1.trans ?_, k2.trans ?_, ks⟩
    · rw [Cert.RefQuantiseWIdeal.Value.final_codes, h0, h1, Cert.RefQuantiseWIdeal.Value.codes_eq]
      rfl
    · rw [Cert.RefQuantiseWIdeal.Value.final_scale, h0, Cert.RefQuantiseWIdeal.Value.scale_eq]
      rfl
    · rw [Cert.RefQuantiseWIdeal.Value.final_hist, h0, h1, Cert.RefQuantiseWIdeal.Value.hist_eq, ← qw_amax_eq]

end Cert.Proof

end
-- ==== Proof.FwdBlock.lean ====
/-
  What the payloads of one grid point of the `fwd_dx` kernel compute from a block of 512 tokens: the scales from the
  words of the histories, the codes, one column chunk of `y`, the block of `dx`, and the folded maxima.
-/
module

public import proofs.«01_k».proof.Proof.Scale
public import proofs.«01_k».proof.Proof.Gen.FwdDxIdeal.Frame
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FwdDxIdeal.Value

open Cert.FwdDxIdeal Cert.FwdDxIdeal.Gen

section AnyFloats
variable {F : FTy → Type} [FloatOps F]

/-! ## The scales -/

/-- The scale and the inverse that the words of the first history give. -/
theorem scale_x_words (a0 a1 a2 a3 a4 a5 a6 a7 a8 a9 a10 a11 a12 a13 a14 a15 : F .f32) :
    k0_pay12 (k0_pay9 a0 a1 a2 a3 a4 a5 a6 a7 a8 a9 a10 a11 a12 a13 a14 a15) (k0_pay10 a0 a1 a2 a3 a4 a5 a6 a7 a8 a9 a10 a11 a12 a13 a14 a15) (Scalar.addi (Scalar.fptosi 32 (k0_pay11 a0 a1 a2 a3 a4 a5 a6 a7 a8 a9 a10 a11 a12 a13 a14 a15)) 1#32) (FloatOps.ofBits .f32 0x00000000#32)
      = Fp8.scale 0x3B124925#32 (Fp8.chain16 a0 a1 a2 a3 a4 a5 a6 a7 a8 a9 a10 a11 a12 a13 a14 a15) := rfl

theorem inverse_x_words (a0 a1 a2 a3 a4 a5 a6 a7 a8 a9 a10 a11 a12 a13 a14 a15 : F .f32) :
    k0_pay13 (k0_pay9 a0 a1 a2 a3 a4 a5 a6 a7 a8 a9 a10 a11 a12 a13 a14 a15) (k0_pay10 a0 a1 a2 a3 a4 a5 a6 a7 a8 a9 a10 a11 a12 a13 a14 a15) (Scalar.addi (Scalar.fptosi 32 (k0_pay11 a0 a1 a2 a3 a4 a5 a6 a7 a8 a9 a10 a11 a12 a13 a14 a15)) 1#32) (FloatOps.ofBits .f32 0x00000000#32)
      = Fp8.inverse 0x3B124925#32 (Fp8.chain16 a0 a1 a2 a3 a4 a5 a6 a7 a8 a9 a10 a11 a12 a13 a14 a15) := rfl

/-- The scale that the words of the second history give. -/
theorem scale_w_words (a0 a1 a2 a3 a4 a5 a6 a7 a8 a9 a10 a11 a12 a13 a14 a15 : F .f32) :
    k0_pay15 (k0_pay14 a0 a1 a2 a3 a4 a5 a6 a7 a8 a9 a10 a11 a12 a13 a14) a15
      = Fp8.scale 0x3B124925#32 (Fp8.chain16 a0 a1 a2 a3 a4 a5 a6 a7 a8 a9 a10 a11 a12 a13 a14 a15) := rfl

/-- The scale and the inverse that the words of the third history give. -/
theorem scale_dy_words (a0 a1 a2 a3 a4 a5 a6 a7 a8 a9 a10 a11 a12 a13 a14 a15 : F .f32) :
    k0_pay17 (k0_pay16 a0 a1 a2 a3 a4 a5 a6 a7 a8 a9 a10) a11 a12 a13 a14 a15
      = Fp8.scale 0x37924925#32 (Fp8.chain16 a0 a1 a2 a3 a4 a5 a6 a7 a8 a9 a10 a11 a12 a13 a14 a15) := rfl

theorem inverse_dy_words (a0 a1 a2 a3 a4 a5 a6 a7 a8 a9 a10 a11 a12 a13 a14 a15 : F .f32) :
    k0_pay18 (k0_pay16 a0 a1 a2 a3 a4 a5 a6 a7 a8 a9 a10) a11 a12 a13 a14 a15
      = Fp8.inverse 0x37924925#32 (Fp8.chain16 a0 a1 a2 a3 a4 a5 a6 a7 a8 a9 a10 a11 a12 a13 a14 a15) := rfl

/-- The sixteen maxima of a history's words. -/
theorem greatest_fold (h : Vec F S16 .f32) :
    Fp8.chain16 (h (ix1 ⟨0, by decide⟩)) (h (ix1 ⟨1, by decide⟩)) (h (ix1 ⟨2, by decide⟩)) (h (ix1 ⟨3, by decide⟩)) (h (ix1 ⟨4, by decide⟩)) (h (ix1 ⟨5, by decide⟩)) (h (ix1 ⟨6, by decide⟩)) (h (ix1 ⟨7, by decide⟩)) (h (ix1 ⟨8, by decide⟩)) (h (ix1 ⟨9, by decide⟩)) (h (ix1 ⟨10, by decide⟩)) (h (ix1 ⟨11, by decide⟩)) (h (ix1 ⟨12, by decide⟩)) (h (ix1 ⟨13, by decide⟩)) (h (ix1 ⟨14, by decide⟩)) (h (ix1 ⟨15, by decide⟩)) = Fp8.greatest h := rfl

/-! ## The codes -/

/-- The codes of a block of activations under the first history. -/
def codesX (h : Vec F S16 .f32) (x : Vec F S1x512x1536 .bf16) : FVec F S512x1536 .fp8e4m3 :=
  k0_pay23 (k0_pay21 (Fp8.inverse 0x3B124925#32 (Fp8.greatest h)) x) (Scalar.ofBits .f32 0x43E00000#32) k0_pay22

/-- The codes of a block of cotangents under the third history. -/
def codesDy (h : Vec F S16 .f32) (dy : Vec F S1x512x6400 .bf16) : FVec F S512x6400 .fp8e5m2 :=
  k0_pay25 (Fp8.inverse 0x37924925#32 (Fp8.greatest h)) (k0_pay20 dy)

end AnyFloats

/-- An activation's code. -/
def codeX (h : Vec Ideal S16 .f32) (v : EReal) : EReal :=
  min (Ideal.ofBits .f32 0x43E00000#32) (max (Ideal.ofBits .f32 0xC3E00000#32) (v * Fp8.inverse (F := Ideal) 0x3B124925#32 (Fp8.greatest h)))

/-- A cotangent's code. -/
def codeDy (h : Vec Ideal S16 .f32) (v : EReal) : EReal :=
  min (Ideal.ofBits .f32 0x47600000#32) (max (Ideal.ofBits .f32 0xC7600000#32) (v * Fp8.inverse (F := Ideal) 0x37924925#32 (Fp8.greatest h)))

/-- A block's codes, entry by entry. -/
theorem codesX_apply (h : Vec Ideal S16 .f32) (x : Vec Ideal S1x512x1536 .bf16) (r : Fin 512) (k : Fin 1536) :
    codesX h x (ix2 r k) = codeX h (x (ix3 (0 : Fin 1) r k)) := by
  unfold codesX codeX
  generalize Fp8.inverse (F := Ideal) 0x3B124925#32 (Fp8.greatest h) = a
  unfold k0_pay23 k0_pay21 k0_pay22 k0_pay19
  pointwise

theorem codesDy_apply (h : Vec Ideal S16 .f32) (dy : Vec Ideal S1x512x6400 .bf16) (r : Fin 512) (k : Fin 6400) :
    codesDy h dy (ix2 r k) = codeDy h (dy (ix3 (0 : Fin 1) r k)) := by
  unfold codesDy codeDy
  generalize Fp8.inverse (F := Ideal) 0x37924925#32 (Fp8.greatest h) = a
  unfold k0_pay25 k0_pay20
  pointwise

/-- The block of codes that is stored for the activations. -/
theorem stored_codesX (h : Vec Ideal S16 .f32) (x : Vec Ideal S1x512x1536 .bf16) :
    k0_pay24 (k0_pay21 (Fp8.inverse (F := Ideal) 0x3B124925#32 (Fp8.greatest h)) x) (Scalar.ofBits (F := Ideal) .f32 0x43E00000#32) k0_pay22
      = fun j => codeX h (x j) := by
  funext j
  rw [eq_ix3 j]
  unfold codeX
  generalize Fp8.inverse (F := Ideal) 0x3B124925#32 (Fp8.greatest h) = a
  unfold k0_pay24 k0_pay23 k0_pay21 k0_pay22 k0_pay19
  pointwise

/-- The block of codes that is stored for the cotangents. -/
theorem stored_codesDy (h : Vec Ideal S16 .f32) (dy : Vec Ideal S1x512x6400 .bf16) :
    k0_pay26 (Fp8.inverse (F := Ideal) 0x37924925#32 (Fp8.greatest h)) (k0_pay20 dy) = fun j => codeDy h (dy j) := by
  funext j
  rw [eq_ix3 j]
  unfold codeDy
  generalize Fp8.inverse (F := Ideal) 0x37924925#32 (Fp8.greatest h) = a
  unfold k0_pay26 k0_pay25 k0_pay20
  pointwise

/-! ## The products -/

/-- A row of a block's product with the weights' codes, times a scale: the entry at token `8 i + r` of the block. -/
def rowsY (q : FVec Ideal S512x1536 .fp8e4m3) (w : Vec Ideal S1536x6400 .fp8e4m3) (s : Ideal .f32) : Vec Ideal S64x8x6400 .bf16 :=
  fun j => (∑ k : Fin 1536, q (ix2 (⟨(j 0).val * 8 + (j 1).val, by have : (j 0).val < 64 := (j 0).isLt; have : (j 1).val < 8 := (j 1).isLt; omega⟩ : Fin 512) k) * w (ix2 k (⟨(j 2).val, (j 2).isLt⟩ : Fin 6400))) * s

/-- A column chunk of `y` at one entry. -/
theorem chunk_apply (q : FVec Ideal S512x1536 .fp8e4m3) (v : Vec Ideal S1536x1280 .fp8e4m3) (s : Ideal .f32) (i : Fin 64) (r : Fin 8) (n : Fin 1280) :
    k0_pay30 q s v (ix3 i r n) = (∑ k : Fin 1536, q (ix2 (⟨i.val * 8 + r.val, by omega⟩ : Fin 512) k) * v (ix2 k n)) * s := by
  unfold k0_pay30
  pointwise

/-- A row of a block's product with the transposed weights' codes, times a scale. -/
def rowsDx (q : FVec Ideal S512x6400 .fp8e5m2) (w : Vec Ideal S1536x6400 .fp8e4m3) (s : Ideal .f32) : Vec Ideal S64x8x1536 .bf16 :=
  fun j => (∑ k : Fin 6400, q (ix2 (⟨(j 0).val * 8 + (j 1).val, by have : (j 0).val < 64 := (j 0).isLt; have : (j 1).val < 8 := (j 1).isLt; omega⟩ : Fin 512) k) * w (ix2 (⟨(j 2).val, (j 2).isLt⟩ : Fin 1536) k)) * s

/-- The block of `dx`. -/
theorem dx_apply (q : FVec Ideal S512x6400 .fp8e5m2) (w : Vec Ideal S1536x6400 .fp8e4m3) (a b : Ideal .f32) :
    k0_pay33 a b q w = rowsDx q w (b * a) := by
  funext j
  rw [eq_ix3 j]
  unfold k0_pay33 rowsDx
  pointwise

/-- A column chunk of `y` is the part of the whole block at the chunk's columns. -/
theorem chunk_eq (q : FVec Ideal S512x1536 .fp8e4m3) (w : Vec Ideal S1536x6400 .fp8e4m3) (s : Ideal .f32) (n0 : ℕ)
    (inb : ∀ a, (![0, n0] : Fin 2 → ℕ) a + (![1536, 1280] : Fin 2 → ℕ) a ≤ S1536x6400.size a)
    (x : S64x8x1280.Idx) (j : S64x8x6400.Idx) (h0 : (j 0).val = (x 0).val) (h1 : (j 1).val = (x 1).val)
    (h2 : (j 2).val = n0 + (x 2).val) :
    k0_pay30 q s (View.ld w (Rect.unit (s := S1536x6400) ![0, n0] ![1536, 1280] inb)) x = rowsY q w s j := by
  have e := chunk_apply q (View.ld w (Rect.unit (s := S1536x6400) ![0, n0] ![1536, 1280] inb)) s (⟨(x 0).val, (x 0).isLt⟩ : Fin 64) (⟨(x 1).val, (x 1).isLt⟩ : Fin 8) (⟨(x 2).val, (x 2).isLt⟩ : Fin 1280)
  rw [show x = ix3 (⟨(x 0).val, (x 0).isLt⟩ : Fin 64) (⟨(x 1).val, (x 1).isLt⟩ : Fin 8) (⟨(x 2).val, (x 2).isLt⟩ : Fin 1280) from eq_ix3 x]
  refine e.trans ?_
  unfold rowsY
  refine congrArg (· * s) (Finset.sum_congr rfl fun k _ => congrArg₂ (· * · : EReal → EReal → EReal) ?_ ?_)
  · exact congrArg (fun r => q (ix2 r k)) (Fin.ext (by show (x 0).val * 8 + (x 1).val = (j 0).val * 8 + (j 1).val; omega))
  · refine congrArg w (funext fun a => ?_)
    fin_cases a
    · exact Fin.ext (by show 0 + 1 * k.val = k.val; omega)
    · exact Fin.ext (by show n0 + 1 * (x 2).val = (j 2).val; omega)

end Cert.FwdDxIdeal.Value

end
-- ==== Proof.FwdValue.lean ====
/-
  What each grid point of the `fwd_dx` kernel leaves in its windows, and what the running maxima are.
-/
module

public import proofs.«01_k».proof.Proof.FwdBlock
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FwdDxIdeal.Value

open Cert.FwdDxIdeal Cert.FwdDxIdeal.Gen

section AnyFloats

variable {F : FTy → Type} [FloatOps F]
variable (m : (ℓ : Loc nD τ sig) → Buf (Elt F) ℓ)

/-- The last point. -/
abbrev last : Fin cfg0.N := ⟨35, by decide⟩

/-- A point is the first one, a middle one or the last one. -/
theorem which (t : Fin cfg0.N) : (t.val % 36 = 0 ∧ ¬1 ≤ t.val ∧ ¬t.val % 36 = 35) ∨ (¬t.val % 36 = 0 ∧ 1 ≤ t.val ∧ ¬t.val % 36 = 35)
    ∨ (¬t.val % 36 = 0 ∧ 1 ≤ t.val ∧ t.val % 36 = 35) := by
  have hN : t.val < 36 := lt_of_lt_of_eq t.isLt N_0
  omega

/-! ## The running maxima -/

/-- The running maxima of the activations after point `n`. -/
def runningX (c : Dev nD) : (n : ℕ) → n < cfg0.N → Vec F S16x1536 .bf16
  | 0, h => k0_pay3 (k0_pay34 (k0_pay19 (iblk m c 3 ⟨0, h⟩)))
  | n + 1, h => k0_pay5 (k0_pay34 (k0_pay19 (iblk m c 3 ⟨n + 1, h⟩))) (runningX c n (Nat.lt_of_succ_lt h))

/-- The running maxima of the cotangents after point `n`. -/
def runningDy (c : Dev nD) : (n : ℕ) → n < cfg0.N → Vec F S16x6400 .bf16
  | 0, h => k0_pay4 (k0_pay20 (iblk m c 4 ⟨0, h⟩))
  | n + 1, h => k0_pay6 (k0_pay20 (iblk m c 4 ⟨n + 1, h⟩)) (runningDy c n (Nat.lt_of_succ_lt h))

/-- The two scratch buffers hold the running maxima. -/
theorem outs_running (c : Dev nD) : ∀ (n : ℕ) (h : n < cfg0.N),
    (outsAt0 m c n h).2.2.2.2.2.2.2.2.1 = runningX m c n h ∧ (outsAt0 m c n h).2.2.2.2.2.2.2.2.2 = runningDy m c n h
  | 0, h => by
      have e := outsAt0_A m c ⟨0, h⟩ rfl (by show ¬1 ≤ 0; decide) (by show ¬0 % 36 = 35; decide)
      rw [show outsAt0 m c 0 h = _ from e]
      dsimp only
      constructor
      all_goals
        frame_open
        frame_out
        rfl
  | n + 1, h => by
      have hN : n + 1 < 36 := lt_of_lt_of_eq h N_0
      obtain ⟨ih, ih'⟩ := outs_running c n (Nat.lt_of_succ_lt h)
      by_cases h2 : (n + 1) % 36 = 35
      · have e := outsAt0_C m c ⟨n + 1, h⟩ (by show ¬(n + 1) % 36 = 0; omega) (by show 1 ≤ n + 1; omega) h2
        rw [show outsAt0 m c (n + 1) h = _ from e]
        dsimp only
        constructor
        · frame_open
          frame_out
          exact congrArg (k0_pay5 _) (((Memref.isWhole_whole _).read_unread _).trans ih)
        · frame_open
          frame_out
          exact congrArg (k0_pay6 _) (((Memref.isWhole_whole _).read_unread _).trans ih')
      · have e := outsAt0_B m c ⟨n + 1, h⟩ (by show ¬(n + 1) % 36 = 0; omega) (by show 1 ≤ n + 1; omega) h2
        rw [show outsAt0 m c (n + 1) h = _ from e]
        dsimp only
        constructor
        · frame_open
          frame_out
          exact congrArg (k0_pay5 _) (((Memref.isWhole_whole _).read_unread _).trans ih)
        · frame_open
          frame_out
          exact congrArg (k0_pay6 _) (((Memref.isWhole_whole _).read_unread _).trans ih')

/-! ## What the last point leaves -/

/-- The scale of the activations. -/
theorem outs_x_scale (c : Dev nD) : (outsAt0 m c last.val last.isLt).2.2.2.2.1 = fun _ => Fp8.scale 0x3B124925#32 (Fp8.greatest (iblk m c 0 last)) := by
  rw [outsAt0_C m c last (by decide) (by decide) (by decide)]
  dsimp only
  frame_open
  simp (disch := decide) only [Fp8.read_word]
  frame_out
  rw [scale_x_words]
  rfl

/-- The scale of the cotangents. -/
theorem outs_dy_scale (c : Dev nD) : (outsAt0 m c last.val last.isLt).2.2.2.2.2.1 = fun _ => Fp8.scale 0x37924925#32 (Fp8.greatest (iblk m c 2 last)) := by
  rw [outsAt0_C m c last (by decide) (by decide) (by decide)]
  dsimp only
  frame_open
  simp (disch := decide) only [Fp8.read_word]
  frame_out
  rw [scale_dy_words]
  rfl

/-- The first history, moved on by the greatest of the running maxima. -/
theorem outs_x_hist (c : Dev nD) : (outsAt0 m c last.val last.isLt).2.2.2.2.2.2.1 = Fp8.shifted (iblk m c 0 last) (k0_pay7 (runningX m c 35 last.isLt)) := by
  rw [← (outs_running m c 35 last.isLt).1]
  rw [outsAt0_C m c last (by decide) (by decide) (by decide)]
  dsimp only
  frame_open
  simp (disch := decide) only [Fp8.read_word]
  frame_out
  funext j
  canon_tiles x h
  · refine Fp8.shifted_new _ _ j ?_
    omega
  all_goals
    refine Fp8.shifted_word _ _ j _ _ ?_
    omega

/-- The third history, moved on likewise. -/
theorem outs_dy_hist (c : Dev nD) : (outsAt0 m c last.val last.isLt).2.2.2.2.2.2.2.1 = Fp8.shifted (iblk m c 2 last) (k0_pay8 (runningDy m c 35 last.isLt)) := by
  rw [← (outs_running m c 35 last.isLt).2]
  rw [outsAt0_C m c last (by decide) (by decide) (by decide)]
  dsimp only
  frame_open
  simp (disch := decide) only [Fp8.read_word]
  frame_out
  funext j
  canon_tiles x h
  · refine Fp8.shifted_new _ _ j ?_
    omega
  all_goals
    refine Fp8.shifted_word _ _ j _ _ ?_
    omega

end AnyFloats

/-! ## What every point leaves, over the reals -/

variable (m : (ℓ : Loc nD τ sig) → Buf (Elt Ideal) ℓ)

/-- Every point stores the codes of its block of activations. -/
theorem outs_x_codes (c : Dev nD) (t : Fin cfg0.N) : (outsAt0 m c t.val t.isLt).2.2.1 = fun j => codeX (iblk m c 0 t) (iblk m c 3 t j) := by
  rcases which t with ⟨h0, h1, h2⟩ | ⟨h0, h1, h2⟩ | ⟨h0, h1, h2⟩
  all_goals
    first
      | rw [outsAt0_A m c t h0 h1 h2]
      | rw [outsAt0_B m c t h0 h1 h2]
      | rw [outsAt0_C m c t h0 h1 h2]
    dsimp only
    frame_open
    simp (disch := decide) only [Fp8.read_word]
    frame_out
    rw [inverse_x_words, greatest_fold]
    exact stored_codesX _ _

/-- Every point stores the codes of its block of cotangents. -/
theorem outs_dy_codes (c : Dev nD) (t : Fin cfg0.N) : (outsAt0 m c t.val t.isLt).2.2.2.1 = fun j => codeDy (iblk m c 2 t) (iblk m c 4 t j) := by
  rcases which t with ⟨h0, h1, h2⟩ | ⟨h0, h1, h2⟩ | ⟨h0, h1, h2⟩
  all_goals
    first
      | rw [outsAt0_A m c t h0 h1 h2]
      | rw [outsAt0_B m c t h0 h1 h2]
      | rw [outsAt0_C m c t h0 h1 h2]
    dsimp only
    frame_open
    simp (disch := decide) only [Fp8.read_word]
    frame_out
    rw [inverse_dy_words, greatest_fold]
    exact stored_codesDy _ _

/-- The product of the two scales that `y` is multiplied by. -/
def scaleY (hx hw : Vec Ideal S16 .f32) : Ideal .f32 :=
  Fp8.scale (F := Ideal) 0x3B124925#32 (Fp8.greatest hx) * Fp8.scale (F := Ideal) 0x3B124925#32 (Fp8.greatest hw)

/-- The product of the two scales that `dx` is multiplied by. -/
def scaleDx (hdy hw : Vec Ideal S16 .f32) : Ideal .f32 :=
  Fp8.scale (F := Ideal) 0x37924925#32 (Fp8.greatest hdy) * Fp8.scale (F := Ideal) 0x3B124925#32 (Fp8.greatest hw)

/-- The five column chunks make up the block of `y`. -/
theorem outs_y (c : Dev nD) (t : Fin cfg0.N) : (outsAt0 m c t.val t.isLt).1
    = rowsY (codesX (iblk m c 0 t) (iblk m c 3 t)) (iblk m c 5 t) (scaleY (iblk m c 0 t) (iblk m c 1 t)) := by
  rcases which t with ⟨h0, h1, h2⟩ | ⟨h0, h1, h2⟩ | ⟨h0, h1, h2⟩
  all_goals
    first
      | rw [outsAt0_A m c t h0 h1 h2]
      | rw [outsAt0_B m c t h0 h1 h2]
      | rw [outsAt0_C m c t h0 h1 h2]
    dsimp only
    frame_open
    simp (disch := decide) only [Fp8.read_word]
    frame_out
    simp only [inverse_x_words, scale_x_words, scale_w_words, greatest_fold]
    funext j
    canon_tiles x hx
    all_goals exact chunk_eq _ _ _ _ _ x j (by omega) (by omega) (by omega)

/-- The block of `dx`. -/
theorem outs_dx (c : Dev nD) (t : Fin cfg0.N) : (outsAt0 m c t.val t.isLt).2.1
    = rowsDx (codesDy (iblk m c 2 t) (iblk m c 4 t)) (iblk m c 5 t) (scaleDx (iblk m c 2 t) (iblk m c 1 t)) := by
  rcases which t with ⟨h0, h1, h2⟩ | ⟨h0, h1, h2⟩ | ⟨h0, h1, h2⟩
  all_goals
    first
      | rw [outsAt0_A m c t h0 h1 h2]
      | rw [outsAt0_B m c t h0 h1 h2]
      | rw [outsAt0_C m c t h0 h1 h2]
    dsimp only
    frame_open
    simp (disch := decide) only [Fp8.read_word]
    frame_out
    simp only [inverse_dy_words, scale_dy_words, scale_w_words, greatest_fold]
    exact dx_apply _ _ _ _

end Cert.FwdDxIdeal.Value

end
-- ==== Proof.FwdFinal.lean ====
/-
  What the `fwd_dx` kernel leaves in its eight result arrays.
-/
module

public import proofs.«01_k».proof.Proof.FwdValue
public import proofs.«01_k».proof.Proof.Gen.FwdDxIdeal.Value

@[expose] public section

set_option maxRecDepth 16384

noncomputable section

open Idealize.ShloMosaic Idealize.ShloMosaic.TcCoe Idealize.SL.Sem
open Idealize.ShloMosaic.Pipeline (Dat)

namespace Cert.FwdDxIdeal.Value

open Cert.FwdDxIdeal Cert.FwdDxIdeal.Gen

variable (m : (ℓ : Loc nD τ sig) → Buf (Elt Ideal) ℓ)

/-- The blocks that each point works on. -/
theorem idx : ∀ t : Fin cfg0.N, win0_0.index t = ![0] ∧ win0_1.index t = ![0] ∧ win0_2.index t = ![0]
    ∧ win0_3.index t = ![t.val / 6, t.val % 6, 0] ∧ win0_4.index t = ![t.val / 6, t.val % 6, 0] ∧ win0_5.index t = ![0, 0]
    ∧ win0_6.index t = ![t.val, 0, 0] ∧ win0_7.index t = ![t.val, 0, 0]
    ∧ win0_8.index t = ![t.val / 6, t.val % 6, 0] ∧ win0_9.index t = ![t.val / 6, t.val % 6, 0]
    ∧ win0_10.index t = ![0] ∧ win0_11.index t = ![0] ∧ win0_12.index t = ![0] ∧ win0_13.index t = ![0] := by
  decide +kernel

/-- Every point sees the whole of each history and of the weights' codes. -/
theorem hist_x (c : Dev nD) (t : Fin cfg0.N) : iblk m c 0 t = m ((c : Thread nD τ).loc main_arg0) := by
  funext j
  blk_ext [iblk, V, idx t]

theorem hist_w (c : Dev nD) (t : Fin cfg0.N) : iblk m c 1 t = m ((c : Thread nD τ).loc main_arg1) := by
  funext j
  blk_ext [iblk, V, idx t]

theorem hist_dy (c : Dev nD) (t : Fin cfg0.N) : iblk m c 2 t = m ((c : Thread nD τ).loc main_arg2) := by
  funext j
  blk_ext [iblk, V, idx t]

theorem weights (c : Dev nD) (t : Fin cfg0.N) : iblk m c 5 t = m ((c : Thread nD τ).loc main_arg5) := by
  funext j
  blk_ext [iblk, V, idx t]

/-! ## The scales and the histories -/

/-- The scales are what the last point leaves. -/
theorem final_x_scale (c : Dev nD) : (dats m 0 c).arrAt 10 cfg0.N = fun _ => Fp8.scale (F := Ideal) 0x3B124925#32 (Fp8.greatest (m ((c : Thread nD τ).loc main_arg0))) := by
  refine (dats m 0 c).arrAt_eq_of_after_last 10 last (by decide +kernel) _ fun j => ?_
  blk_simp
  rw [after0_10, outs_x_scale, hist_x]

theorem final_dy_scale (c : Dev nD) : (dats m 0 c).arrAt 11 cfg0.N = fun _ => Fp8.scale (F := Ideal) 0x37924925#32 (Fp8.greatest (m ((c : Thread nD τ).loc main_arg2))) := by
  refine (dats m 0 c).arrAt_eq_of_after_last 11 last (by decide +kernel) _ fun j => ?_
  blk_simp
  rw [after0_11, outs_dy_scale, hist_dy]

/-- The new histories are what the last point leaves. -/
theorem final_x_hist (c : Dev nD) : (dats m 0 c).arrAt 12 cfg0.N = Fp8.shifted (m ((c : Thread nD τ).loc main_arg0)) (k0_pay7 (runningX m c 35 last.isLt)) := by
  refine (dats m 0 c).arrAt_eq_of_after_last 12 last (by decide +kernel) _ fun j => ?_
  blk_simp
  rw [after0_12, outs_x_hist, hist_x]

theorem final_dy_hist (c : Dev nD) : (dats m 0 c).arrAt 13 cfg0.N = Fp8.shifted (m ((c : Thread nD τ).loc main_arg2)) (k0_pay8 (runningDy m c 35 last.isLt)) := by
  refine (dats m 0 c).arrAt_eq_of_after_last 13 last (by decide +kernel) _ fun j => ?_
  blk_simp
  rw [after0_13, outs_dy_hist, hist_dy]

/-! ## The codes -/

/-- The blocks cover the arrays of codes. -/
theorem final_x_codes (c : Dev nD) : (dats m 0 c).arrAt 8 cfg0.N
    = fun i => codeX (m ((c : Thread nD τ).loc main_arg0)) (m ((c : Thread nD τ).loc main_arg3) i) := by
  refine (dats m 0 c).arrAt_eq_of_covers 8 _ (by decide +kernel) fun t hf y => ?_
  blk_simp
  rw [after0_8, outs_x_codes, hist_x]
  refine congrArg (codeX _) ?_
  blk_ext [iblk, V, idx t]

theorem final_dy_codes (c : Dev nD) : (dats m 0 c).arrAt 9 cfg0.N
    = fun i => codeDy (m ((c : Thread nD τ).loc main_arg2)) (m ((c : Thread nD τ).loc main_arg4) i) := by
  refine (dats m 0 c).arrAt_eq_of_covers 9 _ (by decide +kernel) fun t hf y => ?_
  blk_simp
  rw [after0_9, outs_dy_codes, hist_dy]
  refine congrArg (codeDy _) ?_
  blk_ext [iblk, V, idx t]

/-! ## The products -/

/-- The batch of the token in row `a` and sublane `r` of the products. -/
def batch (a : Fin 2304) (r : Fin 8) : Fin 6 := ⟨(a.val * 8 + r.val) / 3072, by omega⟩

/-- Its position in the sequence. -/
def position (a : Fin 2304) (r : Fin 8) : Fin 3072 := ⟨(a.val * 8 + r.val) % 3072, by omega⟩

/-- `y` at one entry. -/
def entryY (hx hw : Vec Ideal S16 .f32) (x : Vec Ideal S6x3072x1536 .bf16) (w : Vec Ideal S1536x6400 .fp8e4m3) (a : Fin 2304) (r : Fin 8) (n : Fin 6400) : EReal :=
  (∑ k : Fin 1536, codeX hx (x (ix3 (batch a r) (position a r) k)) * w (ix2 k n)) * scaleY hx hw

/-- `dx` at one entry. -/
def entryDx (hdy hw : Vec Ideal S16 .f32) (dy : Vec Ideal S6x3072x6400 .bf16) (w : Vec Ideal S1536x6400 .fp8e4m3) (a : Fin 2304) (r : Fin 8) (n : Fin 1536) : EReal :=
  (∑ k : Fin 6400, codeDy hdy (dy (ix3 (batch a r) (position a r) k)) * w (ix2 n k)) * scaleDx hdy hw

/-- The blocks cover `y`. -/
theorem final_y (c : Dev nD) : (dats m 0 c).arrAt 6 cfg0.N
    = fun i => entryY (m ((c : Thread nD τ).loc main_arg0)) (m ((c : Thread nD τ).loc main_arg1)) (m ((c : Thread nD τ).loc main_arg3)) (m ((c : Thread nD τ).loc main_arg5)) (⟨(i 0).val, (i 0).isLt⟩ : Fin 2304) (⟨(i 1).val, (i 1).isLt⟩ : Fin 8) (⟨(i 2).val, (i 2).isLt⟩ : Fin 6400) := by
  refine (dats m 0 c).arrAt_eq_of_covers 6 _ (by decide +kernel) fun t hf y => ?_
  blk_simp
  rw [after0_6, outs_y, hist_x, hist_w, weights]
  unfold rowsY entryY
  have h0 : (y 0).val < 64 := (y 0).isLt
  have h1 : (y 1).val < 8 := (y 1).isLt
  have ht : t.val < 36 := lt_of_lt_of_eq t.isLt N_0
  refine congrArg (· * scaleY _ _) (Finset.sum_congr rfl fun k _ => congrArg₂ (· * · : EReal → EReal → EReal) ?_ ?_)
  · refine (codesX_apply _ _ _ k).trans (congrArg (codeX _) ?_)
    unfold batch position
    blk_ext [iblk, V, idx t]
  · blk_ext [iblk, V, idx t]

/-- The blocks cover `dx`. -/
theorem final_dx (c : Dev nD) : (dats m 0 c).arrAt 7 cfg0.N
    = fun i => entryDx (m ((c : Thread nD τ).loc main_arg2)) (m ((c : Thread nD τ).loc main_arg1)) (m ((c : Thread nD τ).loc main_arg4)) (m ((c : Thread nD τ).loc main_arg5)) (⟨(i 0).val, (i 0).isLt⟩ : Fin 2304) (⟨(i 1).val, (i 1).isLt⟩ : Fin 8) (⟨(i 2).val, (i 2).isLt⟩ : Fin 1536) := by
  refine (dats m 0 c).arrAt_eq_of_covers 7 _ (by decide +kernel) fun t hf y => ?_
  blk_simp
  rw [after0_7, outs_dx, hist_dy, hist_w, weights]
  unfold rowsDx entryDx
  have h0 : (y 0).val < 64 := (y 0).isLt
  have h1 : (y 1).val < 8 := (y 1).isLt
  have ht : t.val < 36 := lt_of_lt_of_eq t.isLt N_0
  refine congrArg (· * scaleDx _ _) (Finset.sum_congr rfl fun k _ => congrArg₂ (· * · : EReal → EReal → EReal) ?_ ?_)
  · refine (codesDy_apply _ _ _ k).trans (congrArg (codeDy _) ?_)
    unfold batch position
    blk_ext [iblk, V, idx t]
  · blk_ext [iblk, V, idx t]

/-! ## The greatest magnitudes -/

/-- All of a block's folded maxima are below `b` exactly when every magnitude of the block is. -/
theorem partX_le_iff (x : Vec Ideal S1x512x1536 .bf16) (b : EReal) :
    (∀ j, (k0_pay1 (k0_pay34 (k0_pay19 x)) j : EReal) ≤ b) ↔ ∀ (r : Fin 512) (k : Fin 1536), Fp8.mag (φ := .bf16) (x (ix3 (0 : Fin 1) r k)) ≤ b := by
  refine (Fp8.all_le_iff (absf (F := Ideal) (φ := .bf16) (k0_pay19 x)) shapeCasts_S512x1536_S32x16x1536 _ reduces_S32x16x1536_S16x1536 (.inr rfl) rfl Fp8.ofBits_bot_bf16 b).trans ?_
  have e : ∀ (r : Fin 512) (k : Fin 1536), k0_pay19 x (ix2 r k) = x (ix3 (0 : Fin 1) r k) := fun r k => by
    unfold k0_pay19
    pointwise
  constructor
  · intro H r k
    have := H (ix2 r k)
    rwa [show absf (F := Ideal) (φ := .bf16) (k0_pay19 x) (ix2 r k) = Fp8.mag (φ := .bf16) (k0_pay19 x (ix2 r k)) from rfl, e] at this
  · intro H i
    exact (congrArg (Fp8.mag (φ := .bf16)) ((congrArg (k0_pay19 x) (eq_ix2 i)).trans (e _ _))).trans_le (H _ _)

/-- The first point's maxima are its part's. -/
theorem startX_eq (v : FVec Ideal S32x16x1536 .bf16) : k0_pay3 v = k0_pay1 v := by
  unfold k0_pay3
  dsimp only
  rw [shapeCast_self]

/-- A further point takes its part's maxima in. -/
theorem stepX_eq (v : FVec Ideal S32x16x1536 .bf16) (s : Vec Ideal S16x1536 .bf16) : k0_pay5 v s = fun j => max (s j : EReal) (k0_pay1 v j) := by
  unfold k0_pay5
  dsimp only
  rw [shapeCast_self]
  rfl

/-- The same for the running maxima after point `n` and the blocks up to it. -/
theorem runningX_le_iff (c : Dev nD) (b : EReal) (n : ℕ) (h : n < cfg0.N) :
    (∀ j, (runningX m c n h j : EReal) ≤ b) ↔ ∀ t : Fin cfg0.N, t.val ≤ n → ∀ (r : Fin 512) (k : Fin 1536), Fp8.mag (φ := .bf16) (iblk m c 3 t (ix3 (0 : Fin 1) r k)) ≤ b :=
  Fp8.running_le_iff (runningX m c) (fun t => k0_pay1 (k0_pay34 (k0_pay19 (iblk m c 3 t)))) _ b (fun _ => congrFun (startX_eq _)) (fun _ _ => congrFun (stepX_eq _ _)) (fun _ => partX_le_iff _ b) n h

/-- The element that the last point reads out. -/
theorem wordX_le_iff (s : Vec Ideal S16x1536 .bf16) (b : EReal) : (k0_pay7 s : EReal) ≤ b ↔ ∀ j, (s j : EReal) ≤ b := by
  unfold k0_pay7
  exact Fp8.word_le_iff (φ := .f32) s shapeCasts_S16x1536_S1x16x1536 _ reduces_S1x16x1536_S1 (.inl rfl) rfl Fp8.ofBits_bot_f32 (by decide) shapeCasts_S1_S1x1x1 _ inpos_S1x1x1_p0_0_0 b

/-- The new word of the first history is below `b` exactly when every magnitude of the activations is. -/
theorem amaxX_le_iff (c : Dev nD) (b : EReal) : (k0_pay7 (runningX m c 35 last.isLt) : EReal) ≤ b
    ↔ ∀ i, Fp8.mag (φ := .bf16) (m ((c : Thread nD τ).loc main_arg3) i) ≤ b := by
  refine (wordX_le_iff _ b).trans ?_
  refine (runningX_le_iff m c b 35 last.isLt).trans ?_
  constructor
  · intro H i
    have hi0 : (i 0).val < 6 := (i 0).isLt
    have hi : (i 1).val < 3072 := (i 1).isLt
    have ht : (i 0).val * 6 + (i 1).val / 512 < 36 := by omega
    have e : iblk m c 3 ⟨(i 0).val * 6 + (i 1).val / 512, lt_of_lt_of_eq ht N_0.symm⟩ (ix3 (0 : Fin 1) (⟨(i 1).val % 512, by omega⟩ : Fin 512) (⟨(i 2).val, (i 2).isLt⟩ : Fin 1536)) = m ((c : Thread nD τ).loc main_arg3) i := by
      blk_ext [iblk, V, idx ⟨(i 0).val * 6 + (i 1).val / 512, lt_of_lt_of_eq ht N_0.symm⟩]
    have := H ⟨(i 0).val * 6 + (i 1).val / 512, lt_of_lt_of_eq ht N_0.symm⟩ (by show (i 0).val * 6 + (i 1).val / 512 ≤ 35; omega) (⟨(i 1).val % 512, by omega⟩ : Fin 512) (⟨(i 2).val, (i 2).isLt⟩ : Fin 1536)
    rwa [e] at this
  · intro H t _ r k
    have ht : t.val < 36 := lt_of_lt_of_eq t.isLt N_0
    have e : iblk m c 3 t (ix3 (0 : Fin 1) r k) = m ((c : Thread nD τ).loc main_arg3) (ix3 (⟨t.val / 6, by omega⟩ : Fin 6) (⟨t.val % 6 * 512 + r.val, by omega⟩ : Fin 3072) k) := by
      blk_ext [iblk, V, idx t]
    have := H (ix3 (⟨t.val / 6, by omega⟩ : Fin 6) (⟨t.val % 6 * 512 + r.val, by omega⟩ : Fin 3072) k)
    rwa [e]

/-- All of a block's folded maxima are below `b` exactly when every magnitude of the block is. -/
theorem partDy_le_iff (x : Vec Ideal S1x512x6400 .bf16) (b : EReal) :
    (∀ j, (k0_pay2 (k0_pay20 x) j : EReal) ≤ b) ↔ ∀ (r : Fin 512) (k : Fin 6400), Fp8.mag (φ := .bf16) (x (ix3 (0 : Fin 1) r k)) ≤ b := by
  refine (Fp8.all_le_iff (absf (F := Ideal) (φ := .bf16) (k0_pay20 x)) shapeCasts_S512x6400_S32x16x6400 _ reduces_S32x16x6400_S16x6400 (.inr rfl) rfl Fp8.ofBits_bot_bf16 b).trans ?_
  have e : ∀ (r : Fin 512) (k : Fin 6400), k0_pay20 x (ix2 r k) = x (ix3 (0 : Fin 1) r k) := fun r k => by
    unfold k0_pay20
    pointwise
  constructor
  · intro H r k
    have := H (ix2 r k)
    rwa [show absf (F := Ideal) (φ := .bf16) (k0_pay20 x) (ix2 r k) = Fp8.mag (φ := .bf16) (k0_pay20 x (ix2 r k)) from rfl, e] at this
  · intro H i
    exact (congrArg (Fp8.mag (φ := .bf16)) ((congrArg (k0_pay20 x) (eq_ix2 i)).trans (e _ _))).trans_le (H _ _)

/-- The first point's maxima are its part's. -/
theorem startDy_eq (v : FVec Ideal S512x6400 .bf16) : k0_pay4 v = k0_pay2 v := by
  unfold k0_pay4
  dsimp only
  rw [shapeCast_self]

/-- A further point takes its part's maxima in. -/
theorem stepDy_eq (v : FVec Ideal S512x6400 .bf16) (s : Vec Ideal S16x6400 .bf16) : k0_pay6 v s = fun j => max (s j : EReal) (k0_pay2 v j) := by
  unfold k0_pay6
  dsimp only
  rw [shapeCast_self]
  rfl

/-- The same for the running maxima after point `n` and the blocks up to it. -/
theorem runningDy_le_iff (c : Dev nD) (b : EReal) (n : ℕ) (h : n < cfg0.N) :
    (∀ j, (runningDy m c n h j : EReal) ≤ b) ↔ ∀ t : Fin cfg0.N, t.val ≤ n → ∀ (r : Fin 512) (k : Fin 6400), Fp8.mag (φ := .bf16) (iblk m c 4 t (ix3 (0 : Fin 1) r k)) ≤ b :=
  Fp8.running_le_iff (runningDy m c) (fun t => k0_pay2 (k0_pay20 (iblk m c 4 t))) _ b (fun _ => congrFun (startDy_eq _)) (fun _ _ => congrFun (stepDy_eq _ _)) (fun _ => partDy_le_iff _ b) n h

/-- The element that the last point reads out. -/
theorem wordDy_le_iff (s : Vec Ideal S16x6400 .bf16) (b : EReal) : (k0_pay8 s : EReal) ≤ b ↔ ∀ j, (s j : EReal) ≤ b := by
  unfold k0_pay8
  exact Fp8.word_le_iff (φ := .f32) s shapeCasts_S16x6400_S1x16x6400 _ reduces_S1x16x6400_S1 (.inl rfl) rfl Fp8.ofBits_bot_f32 (by decide) shapeCasts_S1_S1x1x1 _ inpos_S1x1x1_p0_0_0 b

/-- The new word of the third history is below `b` exactly when every magnitude of the cotangents is. -/
theorem amaxDy_le_iff (c : Dev nD) (b : EReal) : (k0_pay8 (runningDy m c 35 last.isLt) : EReal) ≤ b
    ↔ ∀ i, Fp8.mag (φ := .bf16) (m ((c : Thread nD τ).loc main_arg4) i) ≤ b := by
  refine (wordDy_le_iff _ b).trans ?_
  refine (runningDy_le_iff m c b 35 last.isLt).trans ?_
  constructor
  · intro H i
    have hi0 : (i 0).val < 6 := (i 0).isLt
    have hi : (i 1).val < 3072 := (i 1).isLt
    have ht : (i 0).val * 6 + (i 1).val / 512 < 36 := by omega
    have e : iblk m c 4 ⟨(i 0).val * 6 + (i 1).val / 512, lt_of_lt_of_eq ht N_0.symm⟩ (ix3 (0 : Fin 1) (⟨(i 1).val % 512, by omega⟩ : Fin 512) (⟨(i 2).val, (i 2).isLt⟩ : Fin 6400)) = m ((c : Thread nD τ).loc main_arg4) i := by
      blk_ext [iblk, V, idx ⟨(i 0).val * 6 + (i 1).val / 512, lt_of_lt_of_eq ht N_0.symm⟩]
    have := H ⟨(i 0).val * 6 + (i 1).val / 512, lt_of_lt_of_eq ht N_0.symm⟩ (by show (i 0).val * 6 + (i 1).val / 512 ≤ 35; omega) (⟨(i 1).val % 512, by omega⟩ : Fin 512) (⟨(i 2).val, (i 2).isLt⟩ : Fin 6400)
    rwa [e] at this
  · intro H t _ r k
    have ht : t.val < 36 := lt_of_lt_of_eq t.isLt N_0
    have e : iblk m c 4 t (ix3 (0 : Fin 1) r k) = m ((c : Thread nD τ).loc main_arg4) (ix3 (⟨t.val / 6, by omega⟩ : Fin 6) (⟨t.val % 6 * 512 + r.val, by omega⟩ : Fin 3072) k) := by
      blk_ext [iblk, V, idx t]
    have := H (ix3 (⟨t.val / 6, by omega⟩ : Fin 6) (⟨t.val % 6 * 512 + r.val, by omega⟩ : Fin 3072) k)
    rwa [e]

end Cert.FwdDxIdeal.Value

end
-- ==== Proof.RefFwdValue.lean ====
/-
  What the reference of `fwd_dx` leaves: the two products, the codes, the scales, and the histories moved on by the
  greatest magnitude of their arrays.
-/
module

public import proofs.«01_k».proof.Proof.Scale
public import proofs.«01_k».proof.Proof.Gen.RefFwdDxIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RefFwdDxIdeal.Value

open Cert.RefFwdDxIdeal Cert.RefFwdDxIdeal.Gen

section AnyFloats

variable {F : FTy → Type} [FloatOps F]
variable (m : (ℓ : Loc nD τ sig) → Buf (Elt F) ℓ)

/-! ## The arrays -/

/-- Every window is its whole array. -/
theorem idx : ∀ t : Fin cfg0.N, win0_0.index t = ![0] ∧ win0_1.index t = ![0] ∧ win0_2.index t = ![0]
    ∧ win0_3.index t = ![0, 0, 0] ∧ win0_4.index t = ![0, 0, 0] ∧ win0_5.index t = ![0, 0]
    ∧ win0_6.index t = ![0, 0, 0] ∧ win0_7.index t = ![0, 0, 0] ∧ win0_8.index t = ![0, 0, 0] ∧ win0_9.index t = ![0, 0, 0]
    ∧ win0_10.index t = ![0] ∧ win0_11.index t = ![0] ∧ win0_12.index t = ![0] ∧ win0_13.index t = ![0] := by
  decide +kernel

theorem hist_x (c : Dev nD) (t : Fin cfg0.N) : iblk m c 0 t = m ((c : Thread nD τ).loc main_arg0) := by
  funext j
  blk_ext [iblk, V, idx t]

theorem hist_w (c : Dev nD) (t : Fin cfg0.N) : iblk m c 1 t = m ((c : Thread nD τ).loc main_arg1) := by
  funext j
  blk_ext [iblk, V, idx t]

theorem hist_dy (c : Dev nD) (t : Fin cfg0.N) : iblk m c 2 t = m ((c : Thread nD τ).loc main_arg2) := by
  funext j
  blk_ext [iblk, V, idx t]

theorem acts (c : Dev nD) (t : Fin cfg0.N) : iblk m c 3 t = m ((c : Thread nD τ).loc main_arg3) := by
  funext j
  blk_ext [iblk, V, idx t]

theorem cots (c : Dev nD) (t : Fin cfg0.N) : iblk m c 4 t = m ((c : Thread nD τ).loc main_arg4) := by
  funext j
  blk_ext [iblk, V, idx t]

theorem weights (c : Dev nD) (t : Fin cfg0.N) : iblk m c 5 t = m ((c : Thread nD τ).loc main_arg5) := by
  funext j
  blk_ext [iblk, V, idx t]

/-- The one point. -/
abbrev point : Fin cfg0.N := ⟨0, by decide⟩

theorem final_y (c : Dev nD) : (dats m 0 c).arrAt 6 cfg0.N = k0_pay11 (k0_pay3 (m ((c : Thread nD τ).loc main_arg0))) (k0_pay4 (m ((c : Thread nD τ).loc main_arg3)) (m ((c : Thread nD τ).loc main_arg0))) (k0_pay9 (m ((c : Thread nD τ).loc main_arg1))) (m ((c : Thread nD τ).loc main_arg5)) := by
  refine (dats m 0 c).arrAt_eq_of_after_last 6 point (by decide +kernel) _ fun j => ?_
  blk_simp
  rw [after0_6]
  unfold outsAt0
  dsimp only
  frame_out
  simp only [read_unread_whole, hist_x, hist_w, hist_dy, acts, cots, weights]

theorem final_dx (c : Dev nD) : (dats m 0 c).arrAt 7 cfg0.N = k0_pay12 (k0_pay7 (m ((c : Thread nD τ).loc main_arg2))) (k0_pay8 (m ((c : Thread nD τ).loc main_arg4)) (m ((c : Thread nD τ).loc main_arg2))) (k0_pay9 (m ((c : Thread nD τ).loc main_arg1))) (m ((c : Thread nD τ).loc main_arg5)) := by
  refine (dats m 0 c).arrAt_eq_of_after_last 7 point (by decide +kernel) _ fun j => ?_
  blk_simp
  rw [after0_7]
  unfold outsAt0
  dsimp only
  frame_out
  simp only [read_unread_whole, hist_x, hist_w, hist_dy, acts, cots, weights]

theorem final_x_codes (c : Dev nD) : (dats m 0 c).arrAt 8 cfg0.N = k0_pay4 (m ((c : Thread nD τ).loc main_arg3)) (m ((c : Thread nD τ).loc main_arg0)) := by
  refine (dats m 0 c).arrAt_eq_of_after_last 8 point (by decide +kernel) _ fun j => ?_
  blk_simp
  rw [after0_8]
  unfold outsAt0
  dsimp only
  frame_out
  simp only [read_unread_whole, hist_x, hist_w, hist_dy, acts, cots, weights]

theorem final_dy_codes (c : Dev nD) : (dats m 0 c).arrAt 9 cfg0.N = k0_pay8 (m ((c : Thread nD τ).loc main_arg4)) (m ((c : Thread nD τ).loc main_arg2)) := by
  refine (dats m 0 c).arrAt_eq_of_after_last 9 point (by decide +kernel) _ fun j => ?_
  blk_simp
  rw [after0_9]
  unfold outsAt0
  dsimp only
  frame_out
  simp only [read_unread_whole, hist_x, hist_w, hist_dy, acts, cots, weights]

theorem final_x_scale (c : Dev nD) : (dats m 0 c).arrAt 10 cfg0.N = fun _ => k0_pay3 (m ((c : Thread nD τ).loc main_arg0)) := by
  refine (dats m 0 c).arrAt_eq_of_after_last 10 point (by decide +kernel) _ fun j => ?_
  blk_simp
  rw [after0_10]
  unfold outsAt0
  dsimp only
  frame_out
  simp only [read_unread_whole, hist_x, hist_w, hist_dy, acts, cots, weights]

theorem final_dy_scale (c : Dev nD) : (dats m 0 c).arrAt 11 cfg0.N = fun _ => k0_pay7 (m ((c : Thread nD τ).loc main_arg2)) := by
  refine (dats m 0 c).arrAt_eq_of_after_last 11 point (by decide +kernel) _ fun j => ?_
  blk_simp
  rw [after0_11]
  unfold outsAt0
  dsimp only
  frame_out
  simp only [read_unread_whole, hist_x, hist_w, hist_dy, acts, cots, weights]

theorem final_x_hist (c : Dev nD) : (dats m 0 c).arrAt 12 cfg0.N = k0_pay2 (m ((c : Thread nD τ).loc main_arg3)) (m ((c : Thread nD τ).loc main_arg0)) := by
  refine (dats m 0 c).arrAt_eq_of_after_last 12 point (by decide +kernel) _ fun j => ?_
  blk_simp
  rw [after0_12]
  unfold outsAt0
  dsimp only
  frame_out
  simp only [read_unread_whole, hist_x, hist_w, hist_dy, acts, cots, weights]

theorem final_dy_hist (c : Dev nD) : (dats m 0 c).arrAt 13 cfg0.N = k0_pay6 (m ((c : Thread nD τ).loc main_arg4)) (m ((c : Thread nD τ).loc main_arg2)) := by
  refine (dats m 0 c).arrAt_eq_of_after_last 13 point (by decide +kernel) _ fun j => ?_
  blk_simp
  rw [after0_13]
  unfold outsAt0
  dsimp only
  frame_out
  simp only [read_unread_whole, hist_x, hist_w, hist_dy, acts, cots, weights]

end AnyFloats

/-! ## Over the reals -/

/-- The greatest word of a history, as the reference takes it. -/
def greatest (h : Vec Ideal S16 .f32) : Ideal .f32 :=
  extractAt ![0, 0] (shapeCast S1x1 (multiReduction .maximumf [1] S1 (shapeCast S1x16 h shapeCasts_S16_S1x16) 0xFF800000#32 reduces_S1x16_S1 (.inl rfl) rfl) shapeCasts_S1_S1x1) inpos_S1x1_p0_0

/-- It is the greatest of the sixteen words. -/
theorem greatest_eq (h : Vec Ideal S16 .f32) : greatest h = Fp8.greatest h :=
  Fp8.greatest_eq h shapeCasts_S16_S1x16 reduces_S1x16_S1 (.inl rfl) rfl _

/-- The scales. -/
theorem x_scale_eq (h : Vec Ideal S16 .f32) : k0_pay3 h = Fp8.scale (F := Ideal) 0x3B124925#32 (Fp8.greatest h) := by
  rw [← greatest_eq]
  rfl

theorem dy_scale_eq (h : Vec Ideal S16 .f32) : k0_pay7 h = Fp8.scale (F := Ideal) 0x37924925#32 (Fp8.greatest h) := by
  rw [← greatest_eq]
  rfl

theorem w_scale_eq (h : Vec Ideal S16 .f32) : k0_pay10 (k0_pay9 h) = Fp8.scale (F := Ideal) 0x3B124925#32 (Fp8.greatest h) := by
  rw [← greatest_eq]
  rfl

/-- The codes, entry by entry. -/
theorem x_codes_eq (x : Vec Ideal S6x3072x1536 .bf16) (h : Vec Ideal S16 .f32) : k0_pay4 x h = fun i =>
    min (Ideal.ofBits .f32 0x43E00000#32) (max (Ideal.ofBits .f32 0xC3E00000#32) (x i * Fp8.inverse (F := Ideal) 0x3B124925#32 (Fp8.greatest h))) := by
  rw [← greatest_eq]
  rfl

theorem dy_codes_eq (dy : Vec Ideal S6x3072x6400 .bf16) (h : Vec Ideal S16 .f32) : k0_pay8 dy h = fun i =>
    min (Ideal.ofBits .f32 0x47600000#32) (max (Ideal.ofBits .f32 0xC7600000#32) (dy i * Fp8.inverse (F := Ideal) 0x37924925#32 (Fp8.greatest h))) := by
  rw [← greatest_eq]
  rfl

/-- The greatest magnitude of the activations. -/
def amaxX (x : Vec Ideal S6x3072x1536 .bf16) : Ideal .f32 :=
  extractAt ![0, 0, 0, 0] (shapeCast S1x1x1x1 (multiReduction .maximumf [1, 2, 3] S1 (shapeCast S1x6x3072x1536 (absf (F := Ideal) (φ := .f32) x) shapeCasts_S6x3072x1536_S1x6x3072x1536) 0xFF800000#32 reduces_S1x6x3072x1536_S1 (.inl rfl) rfl) shapeCasts_S1_S1x1x1x1) inpos_S1x1x1x1_p0_0_0_0

/-- It is below `b` exactly when every magnitude is. -/
theorem amaxX_le_iff (x : Vec Ideal S6x3072x1536 .bf16) (b : EReal) : (amaxX x : EReal) ≤ b ↔ ∀ i, Fp8.mag (φ := .bf16) (x i) ≤ b :=
  Fp8.word_le_iff (absf (F := Ideal) (φ := .f32) x) shapeCasts_S6x3072x1536_S1x6x3072x1536 _ reduces_S1x6x3072x1536_S1 (.inl rfl) rfl Fp8.ofBits_bot_f32 (by decide) shapeCasts_S1_S1x1x1x1 _ inpos_S1x1x1x1_p0_0_0_0 b

/-- The greatest magnitude of the cotangents. -/
def amaxDy (x : Vec Ideal S6x3072x6400 .bf16) : Ideal .f32 :=
  extractAt ![0, 0, 0, 0] (shapeCast S1x1x1x1 (multiReduction .maximumf [1, 2, 3] S1 (shapeCast S1x6x3072x6400 (absf (F := Ideal) (φ := .f32) x) shapeCasts_S6x3072x6400_S1x6x3072x6400) 0xFF800000#32 reduces_S1x6x3072x6400_S1 (.inl rfl) rfl) shapeCasts_S1_S1x1x1x1) inpos_S1x1x1x1_p0_0_0_0

/-- It is below `b` exactly when every magnitude is. -/
theorem amaxDy_le_iff (x : Vec Ideal S6x3072x6400 .bf16) (b : EReal) : (amaxDy x : EReal) ≤ b ↔ ∀ i, Fp8.mag (φ := .bf16) (x i) ≤ b :=
  Fp8.word_le_iff (absf (F := Ideal) (φ := .f32) x) shapeCasts_S6x3072x6400_S1x6x3072x6400 _ reduces_S1x6x3072x6400_S1 (.inl rfl) rfl Fp8.ofBits_bot_f32 (by decide) shapeCasts_S1_S1x1x1x1 _ inpos_S1x1x1x1_p0_0_0_0 b

/-- The histories moved on. -/
theorem x_hist_eq (x : Vec Ideal S6x3072x1536 .bf16) (h : Vec Ideal S16 .f32) : k0_pay2 x h = Fp8.shifted h (amaxX x) := by
  unfold k0_pay2
  exact Fp8.concatenate_eq_shifted h (amaxX x) slices_S16_o1_S15 concatenates_S15_S1_S16_d0

theorem dy_hist_eq (dy : Vec Ideal S6x3072x6400 .bf16) (h : Vec Ideal S16 .f32) : k0_pay6 dy h = Fp8.shifted h (amaxDy dy) := by
  unfold k0_pay6
  exact Fp8.concatenate_eq_shifted h (amaxDy dy) slices_S16_o1_S15 concatenates_S15_S1_S16_d0

/-- `y` at one entry. -/
theorem y_apply (s : Ideal .f32) (q : FVec Ideal S6x3072x1536 .fp8e4m3) (h : FVec Ideal S1x16 .f32) (w : Vec Ideal S1536x6400 .fp8e4m3) (a : Fin 2304) (r : Fin 8) (n : Fin 6400) :
    k0_pay11 s q h w (ix3 a r n)
      = (∑ k : Fin 1536, q (ix3 (⟨(a.val * 8 + r.val) / 3072, by omega⟩ : Fin 6) (⟨(a.val * 8 + r.val) % 3072, by omega⟩ : Fin 3072) k) * w (ix2 k n)) * (s * k0_pay10 h) := by
  unfold k0_pay11
  generalize k0_pay10 h = z
  pointwise

/-- `dx` at one entry. -/
theorem dx_apply (s : Ideal .f32) (q : FVec Ideal S6x3072x6400 .fp8e5m2) (h : FVec Ideal S1x16 .f32) (w : Vec Ideal S1536x6400 .fp8e4m3) (a : Fin 2304) (r : Fin 8) (n : Fin 1536) :
    k0_pay12 s q h w (ix3 a r n)
      = (∑ k : Fin 6400, q (ix3 (⟨(a.val * 8 + r.val) / 3072, by omega⟩ : Fin 6) (⟨(a.val * 8 + r.val) % 3072, by omega⟩ : Fin 3072) k) * w (ix2 n k)) * (s * k0_pay10 h) := by
  unfold k0_pay12
  generalize k0_pay10 h = z
  pointwise

end Cert.RefFwdDxIdeal.Value

end
-- ==== Proof.FwdClaim.lean ====
/-
  The `fwd_dx` kernel against its reference over the reals: the same products, codes and scales, entry by entry, and
  the same new histories, since the running maxima and the single reduction have the same upper bounds.
-/
module

public import proofs.«01_k».proof.Defs
public import proofs.«01_k».proof.Proof.FwdFinal
public import proofs.«01_k».proof.Proof.RefFwdValue

@[expose] public section

set_option maxRecDepth 16384

noncomputable section

open Idealize.ShloMosaic Idealize.ShloMosaic.TcCoe Idealize.SL.Sem

namespace Cert.Proof

/-- The greatest magnitudes of the activations are equal. -/
theorem fwd_amaxX_eq (m : (ℓ : Loc Cert.FwdDxIdeal.nD Cert.FwdDxIdeal.τ Cert.FwdDxIdeal.sig) → Buf (Elt Ideal) ℓ) (c : Dev Cert.FwdDxIdeal.nD) :
    Cert.FwdDxIdeal.Gen.k0_pay7 (Cert.FwdDxIdeal.Value.runningX m c 35 Cert.FwdDxIdeal.Value.last.isLt) = Cert.RefFwdDxIdeal.Value.amaxX (m ((c.tc : Thread Cert.FwdDxIdeal.nD Cert.FwdDxIdeal.τ).loc Cert.FwdDxIdeal.main_arg3)) :=
  eq_of_forall_ge_iff fun b => (Cert.FwdDxIdeal.Value.amaxX_le_iff m c b).trans (Cert.RefFwdDxIdeal.Value.amaxX_le_iff _ b).symm

/-- The greatest magnitudes of the cotangents are equal. -/
theorem fwd_amaxDy_eq (m : (ℓ : Loc Cert.FwdDxIdeal.nD Cert.FwdDxIdeal.τ Cert.FwdDxIdeal.sig) → Buf (Elt Ideal) ℓ) (c : Dev Cert.FwdDxIdeal.nD) :
    Cert.FwdDxIdeal.Gen.k0_pay8 (Cert.FwdDxIdeal.Value.runningDy m c 35 Cert.FwdDxIdeal.Value.last.isLt) = Cert.RefFwdDxIdeal.Value.amaxDy (m ((c.tc : Thread Cert.FwdDxIdeal.nD Cert.FwdDxIdeal.τ).loc Cert.FwdDxIdeal.main_arg4)) :=
  eq_of_forall_ge_iff fun b => (Cert.FwdDxIdeal.Value.amaxDy_le_iff m c b).trans (Cert.RefFwdDxIdeal.Value.amaxDy_le_iff _ b).symm

/-- The kernel and the reference leave equal results. -/
theorem fwd_algebraic : Cert.algebraic_FwdDxIdeal_RefFwdDxIdeal (hFwdDxIdeal := Cert.FwdDxIdeal.Gen.facts) (hRefFwdDxIdeal := Cert.RefFwdDxIdeal.Gen.facts) := by
  intro m g m' g' _ hagree
  refine ⟨fun c i => Cert.FwdDxIdeal.Value.entryY (m ((c.tc : Thread Cert.FwdDxIdeal.nD Cert.FwdDxIdeal.τ).loc Cert.FwdDxIdeal.main_arg0)) (m ((c.tc : Thread Cert.FwdDxIdeal.nD Cert.FwdDxIdeal.τ).loc Cert.FwdDxIdeal.main_arg1)) (m ((c.tc : Thread Cert.FwdDxIdeal.nD Cert.FwdDxIdeal.τ).loc Cert.FwdDxIdeal.main_arg3)) (m ((c.tc : Thread Cert.FwdDxIdeal.nD Cert.FwdDxIdeal.τ).loc Cert.FwdDxIdeal.main_arg5)) (⟨(i 0).val, (i 0).isLt⟩ : Fin 2304) (⟨(i 1).val, (i 1).isLt⟩ : Fin 8) (⟨(i 2).val, (i 2).isLt⟩ : Fin 6400),
    fun c i => Cert.FwdDxIdeal.Value.entryDx (m ((c.tc : Thread Cert.FwdDxIdeal.nD Cert.FwdDxIdeal.τ).loc Cert.FwdDxIdeal.main_arg2)) (m ((c.tc : Thread Cert.FwdDxIdeal.nD Cert.FwdDxIdeal.τ).loc Cert.FwdDxIdeal.main_arg1)) (m ((c.tc : Thread Cert.FwdDxIdeal.nD Cert.FwdDxIdeal.τ).loc Cert.FwdDxIdeal.main_arg4)) (m ((c.tc : Thread Cert.FwdDxIdeal.nD Cert.FwdDxIdeal.τ).loc Cert.FwdDxIdeal.main_arg5)) (⟨(i 0).val, (i 0).isLt⟩ : Fin 2304) (⟨(i 1).val, (i 1).isLt⟩ : Fin 8) (⟨(i 2).val, (i 2).isLt⟩ : Fin 1536),
    fun c i => Cert.FwdDxIdeal.Value.codeX (m ((c.tc : Thread Cert.FwdDxIdeal.nD Cert.FwdDxIdeal.τ).loc Cert.FwdDxIdeal.main_arg0)) ((m ((c.tc : Thread Cert.FwdDxIdeal.nD Cert.FwdDxIdeal.τ).loc Cert.FwdDxIdeal.main_arg3)) i),
    fun c i => Cert.FwdDxIdeal.Value.codeDy (m ((c.tc : Thread Cert.FwdDxIdeal.nD Cert.FwdDxIdeal.τ).loc Cert.FwdDxIdeal.main_arg2)) ((m ((c.tc : Thread Cert.FwdDxIdeal.nD Cert.FwdDxIdeal.τ).loc Cert.FwdDxIdeal.main_arg4)) i),
    fun c _ => Fp8.scale (F := Ideal) 0x3B124925#32 (Fp8.greatest (m ((c.tc : Thread Cert.FwdDxIdeal.nD Cert.FwdDxIdeal.τ).loc Cert.FwdDxIdeal.main_arg0))),
    fun c _ => Fp8.scale (F := Ideal) 0x37924925#32 (Fp8.greatest (m ((c.tc : Thread Cert.FwdDxIdeal.nD Cert.FwdDxIdeal.τ).loc Cert.FwdDxIdeal.main_arg2))),
    fun c => Fp8.shifted (m ((c.tc : Thread Cert.FwdDxIdeal.nD Cert.FwdDxIdeal.τ).loc Cert.FwdDxIdeal.main_arg0)) (Cert.FwdDxIdeal.Gen.k0_pay7 (Cert.FwdDxIdeal.Value.runningX m c 35 Cert.FwdDxIdeal.Value.last.isLt)),
    fun c => Fp8.shifted (m ((c.tc : Thread Cert.FwdDxIdeal.nD Cert.FwdDxIdeal.τ).loc Cert.FwdDxIdeal.main_arg2)) (Cert.FwdDxIdeal.Gen.k0_pay8 (Cert.FwdDxIdeal.Value.runningDy m c 35 Cert.FwdDxIdeal.Value.last.isLt)), ?_, ?_⟩
  · refine (θ_run _ _ _).mono (fun r h c => ?_) (Cert.FwdDxIdeal.Value.run_blocks m g)
    obtain ⟨k0, k1, k2, k3, k4, k5, k6, k7, ks⟩ := h c
    exact ⟨k0.trans (Cert.FwdDxIdeal.Value.final_y m c), k1.trans (Cert.FwdDxIdeal.Value.final_dx m c), k2.trans (Cert.FwdDxIdeal.Value.final_x_codes m c), k3.trans (Cert.FwdDxIdeal.Value.final_dy_codes m c),
      k4.trans (Cert.FwdDxIdeal.Value.final_x_scale m c), k5.trans (Cert.FwdDxIdeal.Value.final_dy_scale m c), k6.trans (Cert.FwdDxIdeal.Value.final_x_hist m c), k7.trans (Cert.FwdDxIdeal.Value.final_dy_hist m c), ks⟩
  · refine (θ_run _ _ _).mono (fun r h c => ?_) (Cert.RefFwdDxIdeal.Value.run_blocks m' g')
    obtain ⟨k0, k1, k2, k3, k4, k5, k6, k7, ks⟩ := h c
    obtain ⟨h0, h1, h2, h3, h4, h5⟩ := hagree c
    refine ⟨k0.trans ?_, k1.trans ?_, k2.trans ?_, k3.trans ?_, k4.trans ?_, k5.trans ?_, k6.trans ?_, k7.trans ?_, ks⟩
    · rw [Cert.RefFwdDxIdeal.Value.final_y, h0, h1, h3, h5]
      funext i
      refine (congrArg _ (eq_ix3 i)).trans ((Cert.RefFwdDxIdeal.Value.y_apply _ _ _ _ _ _ _).trans ?_)
      rw [Cert.RefFwdDxIdeal.Value.x_scale_eq, Cert.RefFwdDxIdeal.Value.w_scale_eq, Cert.RefFwdDxIdeal.Value.x_codes_eq]
      rfl
    · rw [Cert.RefFwdDxIdeal.Value.final_dx, h1, h2, h4, h5]
      funext i
      refine (congrArg _ (eq_ix3 i)).trans ((Cert.RefFwdDxIdeal.Value.dx_apply _ _ _ _ _ _ _).trans ?_)
      rw [Cert.RefFwdDxIdeal.Value.dy_scale_eq, Cert.RefFwdDxIdeal.Value.w_scale_eq, Cert.RefFwdDxIdeal.Value.dy_codes_eq]
      rfl
    · rw [Cert.RefFwdDxIdeal.Value.final_x_codes, h0, h3, Cert.RefFwdDxIdeal.Value.x_codes_eq]
      rfl
    · rw [Cert.RefFwdDxIdeal.Value.final_dy_codes, h2, h4, Cert.RefFwdDxIdeal.Value.dy_codes_eq]
      rfl
    · rw [Cert.RefFwdDxIdeal.Value.final_x_scale, h0, Cert.RefFwdDxIdeal.Value.x_scale_eq]
      rfl
    · rw [Cert.RefFwdDxIdeal.Value.final_dy_scale, h2, Cert.RefFwdDxIdeal.Value.dy_scale_eq]
      rfl
    · rw [Cert.RefFwdDxIdeal.Value.final_x_hist, h0, h3, Cert.RefFwdDxIdeal.Value.x_hist_eq, ← fwd_amaxX_eq]
    · rw [Cert.RefFwdDxIdeal.Value.final_dy_hist, h2, h4, Cert.RefFwdDxIdeal.Value.dy_hist_eq, ← fwd_amaxDy_eq]

end Cert.Proof

end
-- ==== Proof.lean ====
/-
  The claims: each of the nine programs (the three kernels, their readings over the extended reals, and the three
  references) runs without fault and leaves its arguments unchanged; each reading is its kernel's; and each kernel
  computes what its reference computes.
-/
module

public import proofs.«01_k».proof.Defs
public import proofs.«01_k».proof.Proof.Gen.FwdDx.Frame
public import proofs.«01_k».proof.Proof.Gen.FwdDxIdeal.Frame
public import proofs.«01_k».proof.Proof.Gen.RefFwdDxIdeal.Frame
public import proofs.«01_k».proof.Proof.Gen.Dw.Frame
public import proofs.«01_k».proof.Proof.Gen.DwIdeal.Frame
public import proofs.«01_k».proof.Proof.Gen.RefDwIdeal.Frame
public import proofs.«01_k».proof.Proof.Gen.QuantiseW.Frame
public import proofs.«01_k».proof.Proof.Gen.QuantiseWIdeal.Frame
public import proofs.«01_k».proof.Proof.Gen.RefQuantiseWIdeal.Frame
public import proofs.«01_k».proof.Proof.DwClaim
public import proofs.«01_k».proof.Proof.QwClaim
public import proofs.«01_k».proof.Proof.FwdClaim

@[expose] public section

noncomputable section

namespace Cert.Proof

open Idealize.ShloMosaic Idealize.SL.Sem

theorem claim : Cert.Claim :=
  ⟨Cert.FwdDx.Gen.facts, Cert.FwdDxIdeal.Gen.facts, Cert.RefFwdDxIdeal.Gen.facts, Cert.Dw.Gen.facts, Cert.DwIdeal.Gen.facts, Cert.RefDwIdeal.Gen.facts, Cert.QuantiseW.Gen.facts, Cert.QuantiseWIdeal.Gen.facts, Cert.RefQuantiseWIdeal.Gen.facts,
    fun m ρ _ => Cert.FwdDx.Gen.frame m ρ,
    fun m ρ _ => Cert.FwdDxIdeal.Gen.frame m ρ,
    fun m ρ _ => Cert.RefFwdDxIdeal.Gen.frame m ρ,
    fun m ρ _ => Cert.Dw.Gen.frame m ρ,
    fun m ρ _ => Cert.DwIdeal.Gen.frame m ρ,
    fun m ρ _ => Cert.RefDwIdeal.Gen.frame m ρ,
    fun m ρ _ => Cert.QuantiseW.Gen.frame m ρ,
    fun m ρ _ => Cert.QuantiseWIdeal.Gen.frame m ρ,
    fun m ρ _ => Cert.RefQuantiseWIdeal.Gen.frame m ρ,
    trivial, fwd_algebraic, trivial, dw_algebraic, trivial, qw_algebraic⟩

end Cert.Proof

end
